-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x64 : Shape := ⟨3, ![8, 1024, 64]⟩
abbrev S32x32x64 : Shape := ⟨3, ![32, 32, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S32x8x32x8 : Shape := ⟨4, ![32, 8, 32, 8]⟩
abbrev S32x32x8x8 : Shape := ⟨4, ![32, 32, 8, 8]⟩
abbrev S8x256x256 : Shape := ⟨3, ![8, 256, 256]⟩
abbrev S4x1024x64 : Shape := ⟨3, ![4, 1024, 64]⟩
abbrev S4x256x256 : Shape := ⟨3, ![4, 256, 256]⟩
abbrev S35x35x64 : Shape := ⟨3, ![35, 35, 64]⟩
abbrev S1x1024x64 : Shape := ⟨3, ![1, 1024, 64]⟩
abbrev S1024x64 : Shape := ⟨2, ![1024, 64]⟩
abbrev S8x8x64 : Shape := ⟨3, ![8, 8, 64]⟩
abbrev S64x64 : Shape := ⟨2, ![64, 64]⟩
abbrev S3x35x64 : Shape := ⟨3, ![3, 35, 64]⟩
abbrev S3x35x8x8 : Shape := ⟨4, ![3, 35, 8, 8]⟩
abbrev S35x8 : Shape := ⟨2, ![35, 8]⟩
abbrev S1x8 : Shape := ⟨2, ![1, 8]⟩
abbrev S8 : Shape := ⟨1, ![8]⟩
abbrev S1x8x1 : Shape := ⟨3, ![1, 8, 1]⟩
abbrev S35x1x8 : Shape := ⟨3, ![35, 1, 8]⟩
abbrev S35x8x8 : Shape := ⟨3, ![35, 8, 8]⟩
abbrev S1x35x64 : Shape := ⟨3, ![1, 35, 64]⟩
abbrev S35x64 : Shape := ⟨2, ![35, 64]⟩
abbrev S32x3x64 : Shape := ⟨3, ![32, 3, 64]⟩
abbrev S32x3x8x8 : Shape := ⟨4, ![32, 3, 8, 8]⟩
abbrev S32x8 : Shape := ⟨2, ![32, 8]⟩
abbrev S32x8x1 : Shape := ⟨3, ![32, 8, 1]⟩
abbrev S1x1x8 : Shape := ⟨3, ![1, 1, 8]⟩
abbrev S32x8x8 : Shape := ⟨3, ![32, 8, 8]⟩
abbrev S32x1x64 : Shape := ⟨3, ![32, 1, 64]⟩
abbrev S32x64 : Shape := ⟨2, ![32, 64]⟩
abbrev S1x256x256 : Shape := ⟨3, ![1, 256, 256]⟩

abbrev nBuf : Space → Nat
  | .hbm => 15
  | .vmem => 8
  | .smem => 0
  | _ => 0

abbrev bufTy : (tb : Table) → Fin (tcTables nBuf tb) → BufTy
  | .hbm, ⟨0, _⟩ => ⟨S8x1024x64, .f32⟩
  | .hbm, ⟨1, _⟩ => ⟨S32x32x64, .f32⟩
  | .hbm, ⟨2, _⟩ => ⟨S256, .f32⟩
  | .hbm, ⟨3, _⟩ => ⟨S256x1, .f32⟩
  | .hbm, ⟨4, _⟩ => ⟨S1x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S32x8x32x8, .f32⟩
  | .hbm, ⟨12, _⟩ => ⟨S32x32x8x8, .f32⟩
  | .hbm, ⟨13, _⟩ => ⟨S32x32x64, .f32⟩
  | .hbm, ⟨14, _⟩ => ⟨S8x256x256, .f32⟩
  | .local _ .vmem, ⟨0, _⟩ => ⟨S4x1024x64, .f32⟩
  | .local _ .vmem, ⟨1, _⟩ => ⟨S4x1024x64, .f32⟩
  | .local _ .vmem, ⟨2, _⟩ => ⟨S32x32x64, .f32⟩
  | .local _ .vmem, ⟨3, _⟩ => ⟨S32x32x64, .f32⟩
  | .local _ .vmem, ⟨4, _⟩ => ⟨S4x256x256, .f32⟩
  | .local _ .vmem, ⟨5, _⟩ => ⟨S4x256x256, .f32⟩
  | .local _ .vmem, ⟨6, _⟩ => ⟨S35x35x64, .f32⟩
  | .local _ .vmem, ⟨7, _⟩ => ⟨S35x35x64, .f32⟩
  | _, _ => ⟨S8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x1024x64 : Shape := ⟨3, ![8, 1024, 64]⟩
abbrev S32x32x64 : Shape := ⟨3, ![32, 32, 64]⟩
abbrev S32 : Shape := ⟨1, ![32]⟩
abbrev S_ : Shape := ⟨0, ![]⟩
abbrev S32x1x1x1 : Shape := ⟨4, ![32, 1, 1, 1]⟩
abbrev S1x1x32x1 : Shape := ⟨4, ![1, 1, 32, 1]⟩
abbrev S32x1x32x1 : Shape := ⟨4, ![32, 1, 32, 1]⟩
abbrev S1x32x1x1 : Shape := ⟨4, ![1, 32, 1, 1]⟩
abbrev S1x1x1x32 : Shape := ⟨4, ![1, 1, 1, 32]⟩
abbrev S1x32x1x32 : Shape := ⟨4, ![1, 32, 1, 32]⟩
abbrev S32x32x32x32 : Shape := ⟨4, ![32, 32, 32, 32]⟩
abbrev S1048576 : Shape := ⟨1, ![1048576]⟩
abbrev S1024x64 : Shape := ⟨2, ![1024, 64]⟩
abbrev S8x1024x1024 : Shape := ⟨3, ![8, 1024, 1024]⟩
abbrev S8x1048576 : Shape := ⟨2, ![8, 1048576]⟩
abbrev S8x65536 : Shape := ⟨2, ![8, 65536]⟩
abbrev S1048576x1 : Shape := ⟨2, ![1048576, 1]⟩
abbrev S65536 : Shape := ⟨1, ![65536]⟩
abbrev S1x65536 : Shape := ⟨2, ![1, 65536]⟩
abbrev S8x256x256 : Shape := ⟨3, ![8, 256, 256]⟩

abbrev nBuf : Space → Nat
  | .hbm => 76
  | .vmem => 0
  | .smem => 0
  | _ => 0

abbrev bufTy : (tb : Table) → Fin (tcTables nBuf tb) → BufTy
  | .hbm, ⟨0, _⟩ => ⟨S8x1024x64, .f32⟩
  | .hbm, ⟨1, _⟩ => ⟨S32x32x64, .f32⟩
  | .hbm, ⟨2, _⟩ => ⟨S32, .i32⟩
  | .hbm, ⟨3, _⟩ => ⟨S_, .i32⟩
  | .hbm, ⟨4, _⟩ => ⟨S32, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1x1x1, .i32⟩
  | .hbm, ⟨13, _⟩ => ⟨S1x1x32x1, .i32⟩
  | .hbm, ⟨14, _⟩ => ⟨S32x1x32x1, .i32⟩
  | .hbm, ⟨15, _⟩ => ⟨S32x1x32x1, .i32⟩
  | .hbm, ⟨16, _⟩ => ⟨S32x1x32x1, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S32x1x32x1, .i32⟩
  | .hbm, ⟨21, _⟩ => ⟨S32x1x32x1, .i32⟩
  | .hbm, ⟨22, _⟩ => ⟨S_, .i32⟩
  | .hbm, ⟨23, _⟩ => ⟨S32x1x32x1, .i32⟩
  | .hbm, ⟨24, _⟩ => ⟨S32x1x32x1, .i32⟩
  | .hbm, ⟨25, _⟩ => ⟨S1x32x1x1, .i32⟩
  | .hbm, ⟨26, _⟩ => ⟨S1x1x1x32, .i32⟩
  | .hbm, ⟨27, _⟩ => ⟨S1x32x1x32, .i32⟩
  | .hbm, ⟨28, _⟩ => ⟨S1x32x1x32, .i32⟩
  | .hbm, ⟨29, _⟩ => ⟨S1x32x1x32, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1x32x1x32, .i32⟩
  | .hbm, ⟨34, _⟩ => ⟨S1x32x1x32, .i32⟩
  | .hbm, ⟨35, _⟩ => ⟨S_, .i32⟩
  | .hbm, ⟨36, _⟩ => ⟨S1x32x1x32, .i32⟩
  | .hbm, ⟨37, _⟩ => ⟨S1x32x1x32, .i32⟩
  | .hbm, ⟨38, _⟩ => ⟨S_, .i32⟩
  | .hbm, ⟨39, _⟩ => ⟨S32x1x32x1, .i32⟩
  | .hbm, ⟨40, _⟩ => ⟨S32x1x32x1, .i32⟩
  | .hbm, ⟨41, _⟩ => ⟨S32x32x32x32, .i32⟩
  | .hbm, ⟨42, _⟩ => ⟨S32x32x32x32, .i32⟩
  | .hbm, ⟨43, _⟩ => ⟨S32x32x32x32, .i32⟩
  | .hbm, ⟨44, _⟩ => ⟨S1048576, .i32⟩
  | .hbm, ⟨45, _⟩ => ⟨S1024x64, .f32⟩
  | .hbm, ⟨46, _⟩ => ⟨S8x1024x1024, .f32⟩
  | .hbm, ⟨47, _⟩ => ⟨S8x1048576, .f32⟩
  | .hbm, ⟨48, _⟩ => ⟨S_, .f32⟩
  | .hbm, ⟨49, _⟩ => ⟨S8x65536, .f32⟩
  | .hbm, ⟨50, _⟩ => ⟨S_, .i32⟩
  | .hbm, ⟨51, _⟩ => ⟨S1048576, .i32⟩
  | .hbm, ⟨52, _⟩ => ⟨S1048576, .i1⟩
  | .hbm, ⟨53, _⟩ => ⟨S_, .i32⟩
  | .hbm, ⟨54, _⟩ => ⟨S1048576, .i32⟩
  | .hbm, ⟨55, _⟩ => ⟨S1048576, .i32⟩
  | .hbm, ⟨56, _⟩ => ⟨S1048576, .i32⟩
  | .hbm, ⟨57, _⟩ => ⟨S1048576x1, .i32⟩
  | .hbm, ⟨58, _⟩ => ⟨S8x65536, .f32⟩
  | .hbm, ⟨59, _⟩ => ⟨S_, .f32⟩
  | .hbm, ⟨60, _⟩ => ⟨S65536, .f32⟩
  | .hbm, ⟨61, _⟩ => ⟨S_, .i32⟩
  | .hbm, ⟨62, _⟩ => ⟨S1048576, .i32⟩
  | .hbm, ⟨63, _⟩ => ⟨S1048576, .i1⟩
  | .hbm, ⟨64, _⟩ => ⟨S_, .i32⟩
  | .hbm, ⟨65, _⟩ => ⟨S1048576, .i32⟩
  | .hbm, ⟨66, _⟩ => ⟨S1048576, .i32⟩
  | .hbm, ⟨67, _⟩ => ⟨S1048576, .i32⟩
  | .hbm, ⟨68, _⟩ => ⟨S1048576x1, .i32⟩
  | .hbm, ⟨69, _⟩ => ⟨S_, .f32⟩
  | .hbm, ⟨70, _⟩ => ⟨S1048576, .f32⟩
  | .hbm, ⟨71, _⟩ => ⟨S65536, .f32⟩
  | .hbm, ⟨72, _⟩ => ⟨S1x65536, .f32⟩
  | .hbm, ⟨73, _⟩ => ⟨S8x65536, .f32⟩
  | .hbm, ⟨74, _⟩ => ⟨S8x65536, .f32⟩
  | .hbm, ⟨75, _⟩ => ⟨S8x256x256, .f32⟩
  | _, _ => ⟨S8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_c_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== Proof.Batch.lean ====
/- What one batch of the kernel leaves in its accumulator, as a pure function of the batch's token rows and the
   weights: the zero fill, the sixteen window additions, the row fold and the column fold, each a
   rectangle laid over what was there before. -/
module

public import proofs.«01_k».proof.Proof.Gen.KernelIdeal.Frame
public import Idealize.ShloMosaic.Lib.Pipeline.ValueKit.Basic

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- The accumulator's contents. -/
abbrev Acc (F : FTy → Type) := S35x35x64.Idx → Elt F .f32

/-- One window addition: the rectangle at `off` gains the product of the token rows `x` with the weight tile `w`. -/
def tile (off : Fin 3 → ℕ) (inb : ∀ a, off a + S32x32x64.size a ≤ S35x35x64.size a) (x : Vec F S1x1024x64 .f32)
    (w : Vec F S8x8x64 .f32) (A : Acc F) : Acc F :=
  (Rect.unit (s := S35x35x64) off S32x32x64.size inb).overlay A
    (k0_pay3 x w fun j => A ((Rect.unit (s := S35x35x64) off S32x32x64.size inb).toLoadRect.idx j))

/-- The row fold: row 31 gains, at the last patch row, the sum of the three overflow rows. -/
def rowFold (A : Acc F) : Acc F :=
  (Rect.unit (s := S35x35x64) ![31, 0, 0] S1x35x64.size inb_S35x35x64_S1x35x64_31_0_0).overlay A
    (k0_pay27 (k0_pay25 fun j => A ((Rect.unit (s := S35x35x64) ![31, 0, 0] S1x35x64.size inb_S35x35x64_S1x35x64_31_0_0).toLoadRect.idx j))
      (k0_pay26 fun j => A ((Rect.unit (s := S35x35x64) ![32, 0, 0] S3x35x64.size inb_S35x35x64_S3x35x64_32_0_0).toLoadRect.idx j)))

/-- The column fold: column 31 gains, at the last patch column, the sum of the three overflow columns. -/
def colFold (A : Acc F) : Acc F :=
  (Rect.unit (s := S35x35x64) ![0, 31, 0] S32x1x64.size inb_S35x35x64_S32x1x64_0_31_0).overlay A
    (k0_pay28 k0_pay24 (fun j => A ((Rect.unit (s := S35x35x64) ![0, 32, 0] S32x3x64.size inb_S35x35x64_S32x3x64_0_32_0).toLoadRect.idx j))
      (fun j => A ((Rect.unit (s := S35x35x64) ![0, 31, 0] S32x1x64.size inb_S35x35x64_S32x1x64_0_31_0).toLoadRect.idx j)))

/-- The weight tile at `(p, q)`. -/
abbrev wt (w : Vec F S32x32x64 .f32) (off : Fin 3 → ℕ) (inb : ∀ a, off a + S8x8x64.size a ≤ S32x32x64.size a) : Vec F S8x8x64 .f32 :=
  fun j => w ((Rect.unit (s := S32x32x64) off S8x8x64.size inb).toLoadRect.idx j)

/-- The accumulator after the sixteen window additions. -/
def tiles (x : Vec F S1x1024x64 .f32) (w : Vec F S32x32x64 .f32) : Acc F :=
  let t := fun off inb woff winb => tile off inb x (wt w woff winb)
  t ![3, 3, 0] inb_S35x35x64_S32x32x64_3_3_0 ![24, 24, 0] inb_S32x32x64_S8x8x64_24_24_0 <|
  t ![3, 2, 0] inb_S35x35x64_S32x32x64_3_2_0 ![24, 16, 0] inb_S32x32x64_S8x8x64_24_16_0 <|
  t ![3, 1, 0] inb_S35x35x64_S32x32x64_3_1_0 ![24, 8, 0] inb_S32x32x64_S8x8x64_24_8_0 <|
  t ![3, 0, 0] inb_S35x35x64_S32x32x64_3_0_0 ![24, 0, 0] inb_S32x32x64_S8x8x64_24_0_0 <|
  t ![2, 3, 0] inb_S35x35x64_S32x32x64_2_3_0 ![16, 24, 0] inb_S32x32x64_S8x8x64_16_24_0 <|
  t ![2, 2, 0] inb_S35x35x64_S32x32x64_2_2_0 ![16, 16, 0] inb_S32x32x64_S8x8x64_16_16_0 <|
  t ![2, 1, 0] inb_S35x35x64_S32x32x64_2_1_0 ![16, 8, 0] inb_S32x32x64_S8x8x64_16_8_0 <|
  t ![2, 0, 0] inb_S35x35x64_S32x32x64_2_0_0 ![16, 0, 0] inb_S32x32x64_S8x8x64_16_0_0 <|
  t ![1, 3, 0] inb_S35x35x64_S32x32x64_1_3_0 ![8, 24, 0] inb_S32x32x64_S8x8x64_8_24_0 <|
  t ![1, 2, 0] inb_S35x35x64_S32x32x64_1_2_0 ![8, 16, 0] inb_S32x32x64_S8x8x64_8_16_0 <|
  t ![1, 1, 0] inb_S35x35x64_S32x32x64_1_1_0 ![8, 8, 0] inb_S32x32x64_S8x8x64_8_8_0 <|
  t ![1, 0, 0] inb_S35x35x64_S32x32x64_1_0_0 ![8, 0, 0] inb_S32x32x64_S8x8x64_8_0_0 <|
  t ![0, 3, 0] inb_S35x35x64_S32x32x64_0_3_0 ![0, 24, 0] inb_S32x32x64_S8x8x64_0_24_0 <|
  t ![0, 2, 0] inb_S35x35x64_S32x32x64_0_2_0 ![0, 16, 0] inb_S32x32x64_S8x8x64_0_16_0 <|
  t ![0, 1, 0] inb_S35x35x64_S32x32x64_0_1_0 ![0, 8, 0] inb_S32x32x64_S8x8x64_0_8_0 <|
  t ![0, 0, 0] inb_S35x35x64_S32x32x64_0_0_0 ![0, 0, 0] inb_S32x32x64_S8x8x64_0_0_0 k0_pay2

/-- The accumulator at the end of a batch. -/
def accEnd (x : Vec F S1x1024x64 .f32) (w : Vec F S32x32x64 .f32) : Acc F := colFold (rowFold (tiles x w))

/-! ## The stores of a batch -/

/-- A list of stores into the accumulator, the newest first. -/
abbrev Stores (F : FTy → Type) [FloatOps F] := List (View.Piece (Elt F) S35x35x64 .f32)

section stores

variable {κ : Kind} {sp : Space} (v : View sig κ sp S35x35x64 .f32)

/-- The store of one window addition, reading what the stores `L` left. -/
def tileStore (off : Fin 3 → ℕ) (inb : ∀ a, off a + S32x32x64.size a ≤ S35x35x64.size a) (x : Vec F S1x1024x64 .f32)
    (w : Vec F S8x8x64 .f32) (L : Stores F) : Stores F :=
  ⟨Rect.unit (s := S35x35x64) off S32x32x64.size inb,
    k0_pay3 x w (v.readCov L (Rect.unit (s := S35x35x64) off S32x32x64.size inb).toLoadRect)⟩ :: L

/-- The store of the row fold. -/
def rowStore (L : Stores F) : Stores F :=
  ⟨Rect.unit (s := S35x35x64) ![31, 0, 0] S1x35x64.size inb_S35x35x64_S1x35x64_31_0_0,
    k0_pay27 (k0_pay25 (v.readCov L (Rect.unit (s := S35x35x64) ![31, 0, 0] S1x35x64.size inb_S35x35x64_S1x35x64_31_0_0).toLoadRect))
      (k0_pay26 (v.readCov L (Rect.unit (s := S35x35x64) ![32, 0, 0] S3x35x64.size inb_S35x35x64_S3x35x64_32_0_0).toLoadRect))⟩ :: L

/-- The store of the column fold. -/
def colStore (L : Stores F) : Stores F :=
  ⟨Rect.unit (s := S35x35x64) ![0, 31, 0] S32x1x64.size inb_S35x35x64_S32x1x64_0_31_0,
    k0_pay28 k0_pay24 (v.readCov L (Rect.unit (s := S35x35x64) ![0, 32, 0] S32x3x64.size inb_S35x35x64_S32x3x64_0_32_0).toLoadRect)
      (v.readCov L (Rect.unit (s := S35x35x64) ![0, 31, 0] S32x1x64.size inb_S35x35x64_S32x1x64_0_31_0).toLoadRect)⟩ :: L

/-- The store of the zero fill. -/
def zeroStore (L : Stores F) : Stores F :=
  ⟨Rect.unit (s := S35x35x64) ![0, 0, 0] S35x35x64.size inb_S35x35x64_S35x35x64_0_0_0, k0_pay2⟩ :: L

/-- All the stores of one batch after the earlier stores `L`; `w` gives the weight tile at a corner. -/
def batchStores (x : Vec F S1x1024x64 .f32)
    (w : (off : Fin 3 → ℕ) → (∀ a, off a + S8x8x64.size a ≤ S32x32x64.size a) → Vec F S8x8x64 .f32) (L : Stores F) : Stores F :=
  let t := fun off inb woff winb => tileStore v off inb x (w woff winb)
  colStore v <| rowStore v <|
  t ![3, 3, 0] inb_S35x35x64_S32x32x64_3_3_0 ![24, 24, 0] inb_S32x32x64_S8x8x64_24_24_0 <|
  t ![3, 2, 0] inb_S35x35x64_S32x32x64_3_2_0 ![24, 16, 0] inb_S32x32x64_S8x8x64_24_16_0 <|
  t ![3, 1, 0] inb_S35x35x64_S32x32x64_3_1_0 ![24, 8, 0] inb_S32x32x64_S8x8x64_24_8_0 <|
  t ![3, 0, 0] inb_S35x35x64_S32x32x64_3_0_0 ![24, 0, 0] inb_S32x32x64_S8x8x64_24_0_0 <|
  t ![2, 3, 0] inb_S35x35x64_S32x32x64_2_3_0 ![16, 24, 0] inb_S32x32x64_S8x8x64_16_24_0 <|
  t ![2, 2, 0] inb_S35x35x64_S32x32x64_2_2_0 ![16, 16, 0] inb_S32x32x64_S8x8x64_16_16_0 <|
  t ![2, 1, 0] inb_S35x35x64_S32x32x64_2_1_0 ![16, 8, 0] inb_S32x32x64_S8x8x64_16_8_0 <|
  t ![2, 0, 0] inb_S35x35x64_S32x32x64_2_0_0 ![16, 0, 0] inb_S32x32x64_S8x8x64_16_0_0 <|
  t ![1, 3, 0] inb_S35x35x64_S32x32x64_1_3_0 ![8, 24, 0] inb_S32x32x64_S8x8x64_8_24_0 <|
  t ![1, 2, 0] inb_S35x35x64_S32x32x64_1_2_0 ![8, 16, 0] inb_S32x32x64_S8x8x64_8_16_0 <|
  t ![1, 1, 0] inb_S35x35x64_S32x32x64_1_1_0 ![8, 8, 0] inb_S32x32x64_S8x8x64_8_8_0 <|
  t ![1, 0, 0] inb_S35x35x64_S32x32x64_1_0_0 ![8, 0, 0] inb_S32x32x64_S8x8x64_8_0_0 <|
  t ![0, 3, 0] inb_S35x35x64_S32x32x64_0_3_0 ![0, 24, 0] inb_S32x32x64_S8x8x64_0_24_0 <|
  t ![0, 2, 0] inb_S35x35x64_S32x32x64_0_2_0 ![0, 16, 0] inb_S32x32x64_S8x8x64_0_16_0 <|
  t ![0, 1, 0] inb_S35x35x64_S32x32x64_0_1_0 ![0, 8, 0] inb_S32x32x64_S8x8x64_0_8_0 <|
  t ![0, 0, 0] inb_S35x35x64_S32x32x64_0_0_0 ![0, 0, 0] inb_S32x32x64_S8x8x64_0_0_0 <| zeroStore L

variable {v} in
theorem canon_tileStore {L : Stores F} {A : Acc F} {off : Fin 3 → ℕ} {inb : ∀ a, off a + S32x32x64.size a ≤ S35x35x64.size a}
    {x : Vec F S1x1024x64 .f32} {w : Vec F S8x8x64 .f32} (h : View.canon L = A) :
    View.canon (tileStore v off inb x w L) = tile off inb x w A := by
  subst h; rw [tileStore, View.canon_cons, View.readCov_eq_canon']; rfl

variable {v} in
theorem canon_rowStore {L : Stores F} {A : Acc F} (h : View.canon L = A) : View.canon (rowStore v L) = rowFold A := by
  subst h; rw [rowStore, View.canon_cons, View.readCov_eq_canon', View.readCov_eq_canon']; rfl

variable {v} in
theorem canon_colStore {L : Stores F} {A : Acc F} (h : View.canon L = A) : View.canon (colStore v L) = colFold A := by
  subst h; rw [colStore, View.canon_cons, View.readCov_eq_canon', View.readCov_eq_canon']; rfl

theorem canon_zeroStore (L : Stores F) : View.canon (zeroStore L) = (k0_pay2 : Acc F) :=
  View.canon_cons_unit_lit _ _ _ (by decide)

/-- What a batch's stores leave in the accumulator, whatever was there before. -/
theorem canon_batchStores (x : Vec F S1x1024x64 .f32) (w : Vec F S32x32x64 .f32) (L : Stores F) :
    View.canon (batchStores v x (wt w) L) = accEnd x w := by
  refine canon_colStore (canon_rowStore ?_)
  iterate 16 refine canon_tileStore ?_
  exact canon_zeroStore L

end stores

/-! ## The kernel's four batches -/

variable (c : Dev nD) (arg1 : Memref sig .tc .vmem S4x1024x64 .f32) (harg1 : arg1.IsWhole) (arg2 : Memref sig .tc .vmem S32x32x64 .f32)
  (harg2 : arg2.IsWhole) (arg5 : Memref sig .tc .vmem S35x35x64 .f32) (arg6 : Memref sig .tc .vmem S35x35x64 .f32)
  (x0 : Vec F S4x1024x64 .f32) (x1 : Vec F S32x32x64 .f32)

/-- The token rows of one batch of a block. -/
abbrev tok (x0 : Vec F S4x1024x64 .f32) (off : Fin 3 → ℕ) (inb : ∀ a, off a + S1x1024x64.size a ≤ S4x1024x64.size a) : Vec F S1x1024x64 .f32 :=
  fun j => x0 ((Rect.unit (s := S4x1024x64) off S1x1024x64.size inb).toLoadRect.idx j)

/-- A load of a batch's token rows through the staging buffer reads them. -/
theorem tok_load (off : Fin 3 → ℕ) (inb : ∀ a, off a + S1x1024x64.size a ≤ S4x1024x64.size a) :
    View.readAt (Elt F) arg1.view (Rect.unit (s := S4x1024x64) off S1x1024x64.size inb).toLoadRect (harg1.unread x0) = tok x0 off inb := by
  funext j
  rw [View.readAt_apply, harg1.read_unread]

/-- A load of a weight tile through the staging buffer reads the tile. -/
theorem wt_load : (fun (off : Fin 3 → ℕ) (inb : ∀ a, off a + S8x8x64.size a ≤ S32x32x64.size a) =>
    View.readAt (Elt F) arg2.view (Rect.unit (s := S32x32x64) off S8x8x64.size inb).toLoadRect (harg2.unread x1)) = wt x1 := by
  funext off inb j
  rw [View.readAt_apply, harg2.read_unread]

open kernelRun0_A in
/-- The first batch's accumulator. -/
theorem acc_batch0 : View.canon (sl.HS0_19 c arg1 harg1 arg2 harg2 arg5 x0 x1)
    = accEnd (tok x0 ![0, 0, 0] inb_S4x1024x64_S1x1024x64_0_0_0) x1 := by
  rw [← canon_batchStores arg5.view _ _ [], ← tok_load arg1 harg1, ← wt_load arg2 harg2]
  rfl

open kernelRun0_A in
/-- The second batch's accumulator. -/
theorem acc_batch1 : View.canon (sl.HS1_19 c arg1 harg1 arg2 harg2 arg6 x0 x1)
    = accEnd (tok x0 ![1, 0, 0] inb_S4x1024x64_S1x1024x64_1_0_0) x1 := by
  rw [← canon_batchStores arg6.view _ _ [], ← tok_load arg1 harg1, ← wt_load arg2 harg2]
  rfl

open kernelRun0_A in
/-- The third batch's accumulator. -/
theorem acc_batch2 : View.canon (sl.HS0_38 c arg1 harg1 arg2 harg2 arg5 x0 x1)
    = accEnd (tok x0 ![2, 0, 0] inb_S4x1024x64_S1x1024x64_2_0_0) x1 := by
  rw [← canon_batchStores arg5.view _ _ (sl.HS0_19 c arg1 harg1 arg2 harg2 arg5 x0 x1), ← tok_load arg1 harg1, ← wt_load arg2 harg2]
  rfl

open kernelRun0_A in
/-- The fourth batch's accumulator. -/
theorem acc_batch3 : View.canon (sl.HS1_38 c arg1 harg1 arg2 harg2 arg6 x0 x1)
    = accEnd (tok x0 ![3, 0, 0] inb_S4x1024x64_S1x1024x64_3_0_0) x1 := by
  rw [← canon_batchStores arg6.view _ _ (sl.HS1_19 c arg1 harg1 arg2 harg2 arg6 x0 x1), ← tok_load arg1 harg1, ← wt_load arg2 harg2]
  rfl

end Cert.KernelIdeal.Hand

end
-- ==== Proof.Pay.lean ====
/- The kernel's payloads at the ideal instance, read at coordinates: a channel of the accumulator is a pair
   (row in the patch, column in the patch), both below 8. -/
module

public import proofs.«01_k».proof.Proof.Batch
public import Idealize.ShloMosaic.Lib.Pointwise

@[expose] public section

set_option maxRecDepth 16384

noncomputable section

namespace Cert.KernelIdeal.Hand

open Cert.KernelIdeal Cert.KernelIdeal.Gen Idealize.ShloMosaic

/-- The channel of patch row `p` and patch column `v`. -/
abbrev lane (p v : Fin 8) : Fin 64 := ⟨p.val * 8 + v.val, by omega⟩

/-- The token at grid row `a` and grid column `b`. -/
abbrev token (a b : Fin 32) : Fin 1024 := ⟨a.val * 32 + b.val, by omega⟩

theorem lane_div (p v : Fin 8) (h : (p.val * 8 + v.val) / 8 < 8) : (⟨(p.val * 8 + v.val) / 8, h⟩ : Fin 8) = p :=
  Fin.ext (by show (p.val * 8 + v.val) / 8 = p.val; omega)

theorem lane_mod (p v : Fin 8) (h : (p.val * 8 + v.val) % 8 < 8) : (⟨(p.val * 8 + v.val) % 8, h⟩ : Fin 8) = v :=
  Fin.ext (by show (p.val * 8 + v.val) % 8 = v.val; omega)

/-- A window addition's payload: the old value plus the dot product of a token row and a weight row. -/
theorem pay3_at (x : Vec Ideal S1x1024x64 .f32) (w : Vec Ideal S8x8x64 .f32) (a : Vec Ideal S32x32x64 .f32) (th tw : Fin 32) (p v : Fin 8) :
    k0_pay3 (F := Ideal) x w a (ix3 th tw (lane p v))
      = a (ix3 th tw (lane p v)) + ∑ d : Fin 64, x (ix3 0 (token th tw) d) * w (ix3 p v d) := by
  pointwise [k0_pay3, k0_pay1]
  simp only [lane_div, lane_mod]

/-- The zero fill is zero. -/
theorem pay2_at (i : S35x35x64.Idx) : (k0_pay2 (F := Ideal)) i = 0 := by
  pointwise [k0_pay2]

/-- The indicator of the last patch row or column. -/
theorem pay24_at (p : Fin 8) : (k0_pay24 (F := Ideal)) (ix1 p) = if p = 7 then 1 else 0 := by
  pointwise [k0_pay24]
  have h : ∀ b : BitVec 32, FloatOps.sitofp (F := Ideal) .f32 b = ((b.toInt : ℝ) : EReal) := fun _ => rfl
  fin_cases p <;> simp [IntOp.cmpi, h]

theorem sum_fiber_02 (h : (S3x35x8x8).Reduces [0, 2] S35x8) (s : Fin 35) (v : Fin 8) (f : S3x35x8x8.Idx → EReal) :
    Ideal.reduceAdd h f (ix2 s v) = ∑ k : Fin 3, ∑ p : Fin 8, f (ix4 k s p v) := by
  rw [← Fintype.sum_prod_type' (f := fun (k : Fin 3) (p : Fin 8) => f (ix4 k s p v))]
  refine Finset.sum_filter_eq_sum_of_fiber _ (fun k : Fin 3 × Fin 8 => ix4 k.1 s k.2 v)
    (fun a b e => Prod.ext (congrFun e 0) (congrFun e 2)) (fun i => ⟨fun e => ⟨(i 0, i 2), ?_⟩, ?_⟩) f
  · funext a
    match a with
    | ⟨0, _⟩ => rfl
    | ⟨1, _⟩ => exact (congrFun e 0).symm
    | ⟨2, _⟩ => rfl
    | ⟨3, _⟩ => exact (congrFun e 1).symm
  · rintro ⟨k, rfl⟩
    funext b
    match b with
    | ⟨0, _⟩ => rfl
    | ⟨1, _⟩ => rfl

theorem sum_fiber_13 (h : (S32x3x8x8).Reduces [1, 3] S32x8) (q : Fin 32) (p : Fin 8) (f : S32x3x8x8.Idx → EReal) :
    Ideal.reduceAdd h f (ix2 q p) = ∑ k : Fin 3, ∑ v : Fin 8, f (ix4 q k p v) := by
  rw [← Fintype.sum_prod_type' (f := fun (k : Fin 3) (v : Fin 8) => f (ix4 q k p v))]
  refine Finset.sum_filter_eq_sum_of_fiber _ (fun k : Fin 3 × Fin 8 => ix4 q k.1 p k.2)
    (fun a b e => Prod.ext (congrFun e 1) (congrFun e 3)) (fun i => ⟨fun e => ⟨(i 1, i 3), ?_⟩, ?_⟩) f
  · funext a
    match a with
    | ⟨0, _⟩ => exact (congrFun e 0).symm
    | ⟨1, _⟩ => rfl
    | ⟨2, _⟩ => exact (congrFun e 1).symm
    | ⟨3, _⟩ => rfl
  · rintro ⟨k, rfl⟩
    funext b
    match b with
    | ⟨0, _⟩ => rfl
    | ⟨1, _⟩ => rfl

theorem rowPay_at (r31 : Vec Ideal S1x35x64 .f32) (over : Vec Ideal S3x35x64 .f32) (s : Fin 35) (p v : Fin 8) :
    k0_pay27 (F := Ideal) (k0_pay25 r31) (k0_pay26 over) (ix3 0 s (lane p v))
      = r31 (ix3 0 s (lane p v)) + if p = 7 then ∑ k : Fin 3, ∑ p' : Fin 8, over (ix3 k s (lane p' v)) else 0 := by
  pointwise [k0_pay27, k0_pay25, k0_pay26]
  simp only [lane_div, lane_mod, pay24_at, sum_fiber_02]
  split
  · rw [one_mul]
    pointwise
  · rw [zero_mul]

theorem colPay_at (over : Vec Ideal S32x3x64 .f32) (c31 : Vec Ideal S32x1x64 .f32) (q : Fin 32) (p v : Fin 8) :
    k0_pay28 (F := Ideal) k0_pay24 over c31 (ix3 q 0 (lane p v))
      = c31 (ix3 q 0 (lane p v)) + if v = 7 then ∑ k : Fin 3, ∑ v' : Fin 8, over (ix3 q k (lane p v')) else 0 := by
  pointwise [k0_pay28]
  simp only [lane_div, lane_mod, pay24_at, sum_fiber_13]
  split
  · rw [mul_one]
    pointwise
  · rw [mul_zero]

theorem outPay_at (a inv : Vec Ideal S32x32x64 .f32) (q s : Fin 32) (p v : Fin 8) :
    k0_pay29 (F := Ideal) a inv (ix3 0 ⟨q.val * 8 + p.val, by omega⟩ ⟨s.val * 8 + v.val, by omega⟩)
      = a (ix3 q s (lane p v)) * inv (ix3 q s (lane p v)) := by
  pointwise [k0_pay29]

end Cert.KernelIdeal.Hand

end
-- ==== Proof.Fold.lean ====
/- The arithmetic of the fold in one dimension. Windows of length 32 start at the multiples of 8, and a position past 255
   counts as 255. Cutting a window in four patches of 8, adding each patch at its place on a line of 35 patches and then
   folding the three patches past the end onto the last place gives the sum over all window positions, by clamped index. -/
module

public import Idealize.ShloMosaic.Lib.Pointwise

@[expose] public section

namespace Fold

/-- Place `p` in the `i`-th patch of a window. -/
abbrev pos (i : Fin 4) (p : Fin 8) : Fin 32 := ⟨i.val * 8 + p.val, by omega⟩

/-- A sum over the positions of a window, patch by patch. -/
theorem sum_pos {M : Type*} [AddCommMonoid M] (f : Fin 32 → M) : ∑ d : Fin 32, f d = ∑ i : Fin 4, ∑ p : Fin 8, f (pos i p) := by
  rw [← Fintype.sum_prod_type' (f := fun (i : Fin 4) (p : Fin 8) => f (pos i p))]
  refine (Fintype.sum_equiv ((finProdFinEquiv (m := 4) (n := 8)).trans (finCongr (show 4 * 8 = 32 from rfl))) _ _ fun x => ?_).symm
  congr 1
  apply Fin.ext
  simp [finProdFinEquiv]
  omega

/-- What lands on patch `h`, place `p`, of the line of 35 patches. -/
def line {M : Type*} [AddCommMonoid M] (f : Fin 32 → Fin 32 → M) (h : ℕ) (p : Fin 8) : M :=
  ∑ i : Fin 4, ∑ t : Fin 32, if t.val + i.val = h then f t (pos i p) else 0

/-- What lands on index `r` of the line of 256 places, positions past the end counting as the last place. -/
def clamped {M : Type*} [AddCommMonoid M] (f : Fin 32 → Fin 32 → M) (r : ℕ) : M :=
  ∑ t : Fin 32, ∑ d : Fin 32, if min (t.val * 8 + d.val) 255 = r then f t d else 0

/-- Folding the three patches past the end onto the last place gives the clamped sum. -/
theorem line_fold {M : Type*} [AddCommMonoid M] (f : Fin 32 → Fin 32 → M) (q : Fin 32) (p : Fin 8) :
    (line f q.val p + if q = 31 ∧ p = 7 then ∑ k : Fin 3, ∑ p' : Fin 8, line f (32 + k.val) p' else 0)
      = clamped f (q.val * 8 + p.val) := by
  have e1 : clamped f (q.val * 8 + p.val) = ∑ i : Fin 4, ∑ t : Fin 32, ∑ p' : Fin 8,
      if min (t.val * 8 + (i.val * 8 + p'.val)) 255 = q.val * 8 + p.val then f t (pos i p') else 0 := by
    unfold clamped
    rw [Finset.sum_comm]
    simp only [sum_pos (fun d => ∑ t : Fin 32, if min (t.val * 8 + d.val) 255 = q.val * 8 + p.val then f t d else 0)]
    refine Finset.sum_congr rfl fun i _ => ?_
    rw [Finset.sum_comm]
  have e2 : line f q.val p = ∑ i : Fin 4, ∑ t : Fin 32, ∑ p' : Fin 8,
      if t.val + i.val = q.val ∧ p' = p then f t (pos i p') else 0 := by
    unfold line
    refine Finset.sum_congr rfl fun i _ => Finset.sum_congr rfl fun t _ => ?_
    rw [Finset.sum_eq_single p (fun p' _ hne => if_neg fun h => hne h.2) (fun h => absurd (Finset.mem_univ _) h)]
    simp
  have e3 : (∑ k : Fin 3, ∑ p' : Fin 8, line f (32 + k.val) p') = ∑ i : Fin 4, ∑ t : Fin 32, ∑ p' : Fin 8,
      if 32 ≤ t.val + i.val then f t (pos i p') else 0 := by
    unfold line
    rw [Finset.sum_comm]
    have : ∀ p' : Fin 8, (∑ k : Fin 3, ∑ i : Fin 4, ∑ t : Fin 32, if t.val + i.val = 32 + k.val then f t (pos i p') else 0)
        = ∑ i : Fin 4, ∑ t : Fin 32, if 32 ≤ t.val + i.val then f t (pos i p') else 0 := by
      intro p'
      rw [Finset.sum_comm]
      refine Finset.sum_congr rfl fun i _ => ?_
      rw [Finset.sum_comm]
      refine Finset.sum_congr rfl fun t _ => ?_
      rw [Fin.sum_univ_three]
      have hi := i.isLt
      have ht := t.isLt
      by_cases h0 : t.val + i.val = 32
      · simp [h0]
      by_cases h1 : t.val + i.val = 33
      · simp [h1]
      by_cases h2 : t.val + i.val = 34
      · simp [h2]
      rw [if_neg (by simpa using h0), if_neg (by simpa using h1), if_neg (by simpa using h2), if_neg (by omega)]
      simp
    simp only [this]
    rw [Finset.sum_comm]
    refine Finset.sum_congr rfl fun i _ => ?_
    rw [Finset.sum_comm]
  rw [e1, e2, e3]
  by_cases hl : q = 31 ∧ p = 7
  · obtain ⟨rfl, rfl⟩ := hl
    rw [if_pos ⟨rfl, rfl⟩]
    simp only [← Finset.sum_add_distrib]
    refine Finset.sum_congr rfl fun i _ => Finset.sum_congr rfl fun t _ => Finset.sum_congr rfl fun p' _ => ?_
    have hp := p'.isLt
    by_cases ha : 32 ≤ t.val + i.val
    · rw [if_pos ha, if_neg (by rintro ⟨h, _⟩; simp at h; omega), if_pos (by simp; omega), zero_add]
    · rw [if_neg ha, add_zero]
      refine if_congr ?_ rfl rfl
      simp [Fin.ext_iff]
      omega
  · rw [if_neg hl, add_zero]
    refine Finset.sum_congr rfl fun i _ => Finset.sum_congr rfl fun t _ => Finset.sum_congr rfl fun p' _ => ?_
    refine if_congr ?_ rfl rfl
    rw [Fin.ext_iff]
    rw [Fin.ext_iff, Fin.ext_iff] at hl
    have hq := q.isLt
    have hp := p.isLt
    have hp' := p'.isLt
    have hl' : ¬ (q.val = 31 ∧ p.val = 7) := hl
    constructor <;> intro h <;> omega

/-- The clamped sum in one dimension and the line sum in the other may be taken in either order. -/
theorem clamped_line {M : Type*} [AddCommMonoid M] (g : Fin 32 → Fin 32 → Fin 32 → Fin 32 → M) (r h : ℕ) (p : Fin 8) :
    clamped (fun t d => line (fun t' d' => g t d t' d') h p) r = line (fun t' d' => clamped (fun t d => g t d t' d') r) h p := by
  unfold clamped line
  have hl : ∀ t d : Fin 32, (if min (t.val * 8 + d.val) 255 = r then
      ∑ i : Fin 4, ∑ t' : Fin 32, (if t'.val + i.val = h then g t d t' (pos i p) else 0) else 0)
      = ∑ i : Fin 4, ∑ t' : Fin 32, if t'.val + i.val = h then (if min (t.val * 8 + d.val) 255 = r then g t d t' (pos i p) else 0) else 0 := by
    intro t d
    split
    · rfl
    · simp
  have hr : ∀ (i : Fin 4) (t' : Fin 32), (if t'.val + i.val = h then
      ∑ t : Fin 32, ∑ d : Fin 32, (if min (t.val * 8 + d.val) 255 = r then g t d t' (pos i p) else 0) else 0)
      = ∑ t : Fin 32, ∑ d : Fin 32, if t'.val + i.val = h then (if min (t.val * 8 + d.val) 255 = r then g t d t' (pos i p) else 0) else 0 := by
    intro i t'
    split
    · rfl
    · simp
  simp only [hl, hr]
  simp only [← Fintype.sum_prod_type']
  exact Fintype.sum_equiv ⟨fun x => (x.2.2.1, x.2.2.2, x.1, x.2.1), fun y => (y.2.2.1, y.2.2.2, y.1, y.2.1), fun _ => rfl, fun _ => rfl⟩
    _ _ fun _ => rfl

end Fold
-- ==== Proof.Acc.lean ====
/- The accumulator at the end of a batch, read at coordinates: before the folds a sum over the windows that reach the
   index; after them, the sum over all window positions that the clamped index sends there. -/
module

public import proofs.«01_k».proof.Proof.Pay
public import proofs.«01_k».proof.Proof.Fold

@[expose] public section

set_option maxRecDepth 16384

noncomputable section

namespace Cert.KernelIdeal.Hand

open Cert.KernelIdeal Cert.KernelIdeal.Gen Idealize.ShloMosaic Fold

/-! ## Laying a rectangle over contents -/

section overlay

variable {s : Shape} {α : Type} {off size : Fin s.rank → ℕ} (inb : ∀ a, off a + size a ≤ s.size a)

/-- Under the rectangle the overlay reads the payload. -/
theorem overlay_hit (A : s.Idx → α) (w : (Rect.unit off size inb).shape.Idx → α) (y : s.Idx) (x : (Rect.unit off size inb).shape.Idx)
    (hx : ∀ a, (y a).val = off a + (x a).val) : (Rect.unit off size inb).overlay A w y = w x := by
  have hy : (Rect.unit off size inb).emb x = y := funext fun a => Fin.ext (by
    show off a + 1 * (x a).val = (y a).val
    rw [hx a, Nat.one_mul])
  rw [← hy]
  exact (Rect.unit off size inb).overlay_emb _ _ x

/-- Off the rectangle the overlay reads what was there before. -/
theorem overlay_miss (A : s.Idx → α) (w : (Rect.unit off size inb).shape.Idx → α) (y : s.Idx) (a : Fin s.rank)
    (ha : (y a).val < off a ∨ off a + size a ≤ (y a).val) : (Rect.unit off size inb).overlay A w y = A y := by
  refine (Rect.unit off size inb).overlay_of_not_mem _ _ ?_
  rw [Rect.mem_set_unit]
  intro hall
  have := hall a
  omega

end overlay

/-! ## The sixteen window additions -/

/-- The projection of the token at grid row `th`, column `tw` onto window row `dh`, column `dw`. -/
def proj (x : Vec Ideal S1x1024x64 .f32) (w : Vec Ideal S32x32x64 .f32) (th tw dh dw : Fin 32) : EReal :=
  ∑ d : Fin 64, x (ix3 0 (token th tw) d) * w (ix3 dh dw d)

/-- One window addition adds, at each index, the projection of the one token whose window lies there, if any. -/
theorem tile_at {i j a b : ℕ} (inb : ∀ k, (![i, j, 0] : Fin 3 → ℕ) k + S32x32x64.size k ≤ S35x35x64.size k)
    (winb : ∀ k, (![a, b, 0] : Fin 3 → ℕ) k + S8x8x64.size k ≤ S32x32x64.size k) (x : Vec Ideal S1x1024x64 .f32)
    (w : Vec Ideal S32x32x64 .f32) (A : Acc Ideal) (q s : Fin 35) (p v : Fin 8) :
    tile ![i, j, 0] inb x (wt w ![a, b, 0] winb) A (ix3 q s (lane p v))
      = A (ix3 q s (lane p v)) + ∑ th : Fin 32, ∑ tw : Fin 32, if th.val + i = q.val ∧ tw.val + j = s.val then
          proj x w th tw ⟨a + p.val, by have := winb 0; simp at this; omega⟩ ⟨b + v.val, by have := winb 1; simp at this; omega⟩ else 0 := by
  have hi : i + 32 ≤ 35 := inb 0
  have hj : j + 32 ≤ 35 := inb 1
  unfold tile
  by_cases h : (i ≤ q.val ∧ q.val < i + 32) ∧ j ≤ s.val ∧ s.val < j + 32
  · obtain ⟨⟨h1, h2⟩, h3, h4⟩ := h
    refine (overlay_hit (s := S35x35x64) (size := S32x32x64.size) inb A _ (ix3 q s (lane p v))
      (ix3 (⟨q.val - i, by omega⟩ : Fin 32) (⟨s.val - j, by omega⟩ : Fin 32) (lane p v)) (fun k => ?_)).trans ?_
    · match k with
      | ⟨0, _⟩ => show q.val = i + (q.val - i); omega
      | ⟨1, _⟩ => show s.val = j + (s.val - j); omega
      | ⟨2, _⟩ => exact (Nat.zero_add _).symm
    rw [pay3_at]
    congr 1
    · congr 1
      funext k
      apply Fin.ext
      match k with
      | ⟨0, _⟩ => show i + 1 * (q.val - i) = q.val; omega
      | ⟨1, _⟩ => show j + 1 * (s.val - j) = s.val; omega
      | ⟨2, _⟩ => show 0 + 1 * (lane p v).val = (lane p v).val; omega
    · rw [Finset.sum_eq_single (⟨q.val - i, by omega⟩ : Fin 32), Finset.sum_eq_single (⟨s.val - j, by omega⟩ : Fin 32), if_pos]
      · refine Finset.sum_congr rfl fun d _ => congrArg _ (congrArg w ?_)
        funext k
        apply Fin.ext
        match k with
        | ⟨0, _⟩ => show a + 1 * p.val = a + p.val; omega
        | ⟨1, _⟩ => show b + 1 * v.val = b + v.val; omega
        | ⟨2, _⟩ => show 0 + 1 * d.val = d.val; omega
      · constructor
        · show q.val - i + i = q.val; omega
        · show s.val - j + j = s.val; omega
      · intro tw _ hne
        rw [if_neg]
        rintro ⟨_, h⟩
        exact hne (Fin.ext (by show tw.val = s.val - j; omega))
      · intro h; exact absurd (Finset.mem_univ _) h
      · intro th _ hne
        refine Finset.sum_eq_zero fun tw _ => ?_
        rw [if_neg]
        rintro ⟨h, _⟩
        exact hne (Fin.ext (by show th.val = q.val - i; omega))
      · intro h; exact absurd (Finset.mem_univ _) h
  · have hm : (Rect.unit (s := S35x35x64) ![i, j, 0] S32x32x64.size inb).overlay A
        (k0_pay3 x (wt w ![a, b, 0] winb) fun j' => A ((Rect.unit (s := S35x35x64) ![i, j, 0] S32x32x64.size inb).toLoadRect.idx j'))
        (ix3 q s (lane p v)) = A (ix3 q s (lane p v)) := by
      by_cases hq : i ≤ q.val ∧ q.val < i + 32
      · refine overlay_miss (s := S35x35x64) (size := S32x32x64.size) inb A _ _ 1 ?_
        show s.val < j ∨ j + 32 ≤ s.val
        by_contra hc
        exact h ⟨hq, by omega, by omega⟩
      · refine overlay_miss (s := S35x35x64) (size := S32x32x64.size) inb A _ _ 0 ?_
        show q.val < i ∨ i + 32 ≤ q.val
        omega
    rw [hm, Finset.sum_eq_zero, add_zero]
    intro th _
    refine Finset.sum_eq_zero fun tw _ => if_neg ?_
    rintro ⟨h1, h2⟩
    exact h ⟨⟨by omega, by omega⟩, by omega, by omega⟩

/-- The accumulator after the sixteen window additions. -/
theorem tiles_at (x : Vec Ideal S1x1024x64 .f32) (w : Vec Ideal S32x32x64 .f32) (q s : Fin 35) (p v : Fin 8) :
    tiles x w (ix3 q s (lane p v)) = ∑ i : Fin 4, ∑ j : Fin 4, ∑ th : Fin 32, ∑ tw : Fin 32,
      if th.val + i.val = q.val ∧ tw.val + j.val = s.val then proj x w th tw (pos i p) (pos j v) else 0 := by
  simp only [tiles, tile_at, pay2_at, Fin.sum_univ_four (M := EReal), add_assoc (G := EReal)]
  rw [zero_add (M := EReal)]
  rfl

/-! ## The folds -/

/-- A place of the grid among the 35 places of the accumulator's axis. -/
abbrev wide (q : Fin 32) : Fin 35 := ⟨q.val, by omega⟩

/-- One of the three places past the end. -/
abbrev past (k : Fin 3) : Fin 35 := ⟨32 + k.val, by omega⟩

/-- The row fold at coordinates. -/
theorem rowFold_at (A : Acc Ideal) (q : Fin 32) (s : Fin 35) (p v : Fin 8) :
    rowFold A (ix3 (wide q) s (lane p v)) = A (ix3 (wide q) s (lane p v))
      + if q = 31 ∧ p = 7 then ∑ k : Fin 3, ∑ p' : Fin 8, A (ix3 (past k) s (lane p' v)) else 0 := by
  unfold rowFold
  by_cases hq : q = 31
  · subst hq
    refine (overlay_hit (s := S35x35x64) (size := S1x35x64.size) inb_S35x35x64_S1x35x64_31_0_0 A _ (ix3 (wide 31) s (lane p v))
      (ix3 (0 : Fin 1) s (lane p v)) (fun k => ?_)).trans ?_
    · match k with
      | ⟨0, _⟩ => rfl
      | ⟨1, _⟩ => exact (Nat.zero_add _).symm
      | ⟨2, _⟩ => exact (Nat.zero_add _).symm
    rw [rowPay_at]
    refine congrArg₂ (· + ·) (congrArg A ?_) (if_congr (by simp) (Finset.sum_congr rfl fun k _ => Finset.sum_congr rfl fun p' _ => congrArg A ?_) rfl)
    · funext k
      apply Fin.ext
      match k with
      | ⟨0, _⟩ => rfl
      | ⟨1, _⟩ => show 0 + 1 * s.val = s.val; omega
      | ⟨2, _⟩ => show 0 + 1 * (lane p v).val = (lane p v).val; omega
    · funext a
      apply Fin.ext
      match a with
      | ⟨0, _⟩ => show 32 + 1 * k.val = 32 + k.val; omega
      | ⟨1, _⟩ => show 0 + 1 * s.val = s.val; omega
      | ⟨2, _⟩ => show 0 + 1 * (lane p' v).val = (lane p' v).val; omega
  · rw [if_neg (fun h => hq h.1), add_zero]
    refine overlay_miss (s := S35x35x64) (size := S1x35x64.size) inb_S35x35x64_S1x35x64_31_0_0 A _ _ 0 (Or.inl ?_)
    show q.val < 31
    have := q.isLt
    have : q.val ≠ 31 := fun h => hq (Fin.ext h)
    omega

/-- The column fold at coordinates. -/
theorem colFold_at (A : Acc Ideal) (q s : Fin 32) (p v : Fin 8) :
    colFold A (ix3 (wide q) (wide s) (lane p v)) = A (ix3 (wide q) (wide s) (lane p v))
      + if s = 31 ∧ v = 7 then ∑ k : Fin 3, ∑ v' : Fin 8, A (ix3 (wide q) (past k) (lane p v')) else 0 := by
  unfold colFold
  by_cases hs : s = 31
  · subst hs
    refine (overlay_hit (s := S35x35x64) (size := S32x1x64.size) inb_S35x35x64_S32x1x64_0_31_0 A _ (ix3 (wide q) (wide 31) (lane p v))
      (ix3 q (0 : Fin 1) (lane p v)) (fun k => ?_)).trans ?_
    · match k with
      | ⟨0, _⟩ => exact (Nat.zero_add _).symm
      | ⟨1, _⟩ => rfl
      | ⟨2, _⟩ => exact (Nat.zero_add _).symm
    rw [colPay_at]
    refine congrArg₂ (· + ·) (congrArg A ?_) (if_congr (by simp) (Finset.sum_congr rfl fun k _ => Finset.sum_congr rfl fun v' _ => congrArg A ?_) rfl)
    · funext k
      apply Fin.ext
      match k with
      | ⟨0, _⟩ => show 0 + 1 * q.val = q.val; omega
      | ⟨1, _⟩ => rfl
      | ⟨2, _⟩ => show 0 + 1 * (lane p v).val = (lane p v).val; omega
    · funext a
      apply Fin.ext
      match a with
      | ⟨0, _⟩ => show 0 + 1 * q.val = q.val; omega
      | ⟨1, _⟩ => show 32 + 1 * k.val = 32 + k.val; omega
      | ⟨2, _⟩ => show 0 + 1 * (lane p v').val = (lane p v').val; omega
  · rw [if_neg (fun h => hs h.1), add_zero]
    refine overlay_miss (s := S35x35x64) (size := S32x1x64.size) inb_S35x35x64_S32x1x64_0_31_0 A _ _ 1 (Or.inl ?_)
    show s.val < 31
    have := s.isLt
    have : s.val ≠ 31 := fun h => hs (Fin.ext h)
    omega

/-- The field at row `r` and column `c`: the projections of all tokens onto all window positions whose clamped place is `(r, c)`, added. -/
def field (x : Vec Ideal S1x1024x64 .f32) (w : Vec Ideal S32x32x64 .f32) (r c : ℕ) : EReal :=
  clamped (fun tw dw => clamped (fun th dh => proj x w th tw dh dw) r) c

/-- Before the folds the accumulator is the line sum in both dimensions. -/
theorem tiles_line (x : Vec Ideal S1x1024x64 .f32) (w : Vec Ideal S32x32x64 .f32) (q s : Fin 35) (p v : Fin 8) :
    tiles x w (ix3 q s (lane p v)) = line (fun th dh => line (fun tw dw => proj x w th tw dh dw) s.val v) q.val p := by
  rw [tiles_at]
  unfold line
  refine Finset.sum_congr rfl fun i _ => ?_
  rw [Finset.sum_comm]
  refine Finset.sum_congr rfl fun th _ => ?_
  by_cases h : th.val + i.val = q.val
  · simp [h]
  · simp [h]

/-- After the row fold: the clamped sum over rows, the line sum over columns. -/
theorem rowFold_line (x : Vec Ideal S1x1024x64 .f32) (w : Vec Ideal S32x32x64 .f32) (q : Fin 32) (s : Fin 35) (p v : Fin 8) :
    rowFold (tiles x w) (ix3 (wide q) s (lane p v))
      = line (fun tw dw => clamped (fun th dh => proj x w th tw dh dw) (q.val * 8 + p.val)) s.val v := by
  rw [rowFold_at]
  simp only [tiles_line]
  rw [line_fold, clamped_line]

/-- At the end of a batch the accumulator holds the field, patch by patch. -/
theorem accEnd_at (x : Vec Ideal S1x1024x64 .f32) (w : Vec Ideal S32x32x64 .f32) (q s : Fin 32) (p v : Fin 8) :
    accEnd x w (ix3 (wide q) (wide s) (lane p v)) = field x w (q.val * 8 + p.val) (s.val * 8 + v.val) := by
  unfold accEnd
  rw [colFold_at]
  simp only [rowFold_line]
  rw [line_fold]
  rfl

end Cert.KernelIdeal.Hand

end
-- ==== Proof.Out.lean ====
/- What the kernel leaves in its result block: for each of the block's four batches, the field divided place by place,
   that is, multiplied by the table of inverses. -/
module

public import proofs.«01_k».proof.Proof.Acc

@[expose] public section

set_option maxRecDepth 16384

noncomputable section

namespace Cert.KernelIdeal.Hand

open Cert.KernelIdeal Cert.KernelIdeal.Gen Idealize.ShloMosaic Idealize.ShloMosaic.TcCoe Idealize.SL.Sem Fold

/-- The place `p` of the patch `q` on an axis of 256. -/
abbrev place (q : Fin 32) (p : Fin 8) : Fin 256 := ⟨q.val * 8 + p.val, by omega⟩

/-- One batch's result: read at coordinates, the field times the table. -/
theorem word_at {κ : Kind} {sp : Space} (v : View sig κ sp S35x35x64 .f32) (L : Stores Ideal) {x : Vec Ideal S1x1024x64 .f32}
    {w : Vec Ideal S32x32x64 .f32} (h : View.canon L = accEnd x w) (arg3 : Memref sig .tc .vmem S32x32x64 .f32) (harg3 : arg3.IsWhole)
    (x2 : Vec Ideal S32x32x64 .f32) (q s : Fin 32) (p u : Fin 8) :
    k0_pay29 (F := Ideal) (v.readCov L (Rect.unit (s := S35x35x64) ![0, 0, 0] S32x32x64.size inb_S35x35x64_S32x32x64_0_0_0).toLoadRect)
        (View.readAt (Elt Ideal) arg3.view (Rect.unit (s := S32x32x64) ![0, 0, 0] S32x32x64.size inb_S32x32x64_S32x32x64_0_0_0).toLoadRect
          (harg3.unread x2)) (ix3 0 (place q p) (place s u))
      = field x w (q.val * 8 + p.val) (s.val * 8 + u.val) * x2 (ix3 q s (lane p u)) := by
  rw [outPay_at, View.readCov_eq_canon', h, View.readAt_apply, harg3.read_unread, ← accEnd_at]
  refine congrArg₂ (· * ·) (congrArg _ ?_) (congrArg _ ?_)
  · funext k
    apply Fin.ext
    match k with
    | ⟨0, _⟩ => show 0 + 1 * q.val = q.val; omega
    | ⟨1, _⟩ => show 0 + 1 * s.val = s.val; omega
    | ⟨2, _⟩ => show 0 + 1 * (lane p u).val = (lane p u).val; omega
  · funext k
    apply Fin.ext
    match k with
    | ⟨0, _⟩ => show 0 + 1 * q.val = q.val; omega
    | ⟨1, _⟩ => show 0 + 1 * s.val = s.val; omega
    | ⟨2, _⟩ => show 0 + 1 * (lane p u).val = (lane p u).val; omega

/-- Of the stores of whole batches into the result block, the newest is read at its own batch. -/
theorem row_hit {k : ℕ} {inb : ∀ a, (![k, 0, 0] : Fin 3 → ℕ) a + S1x256x256.size a ≤ S4x256x256.size a}
    {w : Vec Ideal S1x256x256 .f32} {L : List (View.Piece (Elt Ideal) S4x256x256 .f32)} (b : Fin 4) (hb : b.val = k) (r c : Fin 256) :
    View.canon ((⟨Rect.unit (s := S4x256x256) ![k, 0, 0] S1x256x256.size inb, w⟩ : View.Piece (Elt Ideal) S4x256x256 .f32) :: L) (ix3 b r c)
      = w (ix3 0 r c) := by
  subst hb
  rw [View.canon_cons]
  refine overlay_hit (s := S4x256x256) (size := S1x256x256.size) inb _ w (ix3 b r c) (ix3 (0 : Fin 1) r c) fun a => ?_
  match a with
  | ⟨0, _⟩ => rfl
  | ⟨1, _⟩ => exact (Nat.zero_add _).symm
  | ⟨2, _⟩ => exact (Nat.zero_add _).symm

/-- At another batch the earlier stores are read. -/
theorem row_miss {k : ℕ} {inb : ∀ a, (![k, 0, 0] : Fin 3 → ℕ) a + S1x256x256.size a ≤ S4x256x256.size a}
    {w : Vec Ideal S1x256x256 .f32} {L : List (View.Piece (Elt Ideal) S4x256x256 .f32)} (b : Fin 4) (hb : b.val ≠ k) (r c : Fin 256) :
    View.canon ((⟨Rect.unit (s := S4x256x256) ![k, 0, 0] S1x256x256.size inb, w⟩ : View.Piece (Elt Ideal) S4x256x256 .f32) :: L) (ix3 b r c)
      = View.canon L (ix3 b r c) := by
  rw [View.canon_cons]
  refine overlay_miss (s := S4x256x256) (size := S1x256x256.size) inb _ w (ix3 b r c) 0 ?_
  show b.val < k ∨ k + 1 ≤ b.val
  omega

/-- The token rows of batch `b` of a block, over the extended reals. -/
abbrev rows (x0 : Vec Ideal S4x1024x64 .f32) (b : Fin 4) : Vec Ideal S1x1024x64 .f32 := fun j => x0 (ix3 b (j 1) (j 2))

theorem tok_rows (x0 : Vec Ideal S4x1024x64 .f32) (b : Fin 4) {k : ℕ} (hb : b.val = k)
    (inb : ∀ a, (![k, 0, 0] : Fin 3 → ℕ) a + S1x1024x64.size a ≤ S4x1024x64.size a) : tok x0 ![k, 0, 0] inb = rows x0 b := by
  subst hb
  funext j
  refine congrArg x0 ?_
  funext a
  apply Fin.ext
  have h0 : (j 0).val = 0 := Nat.lt_one_iff.mp (j 0).isLt
  match a with
  | ⟨0, _⟩ => show b.val + 1 * (j 0).val = b.val; omega
  | ⟨1, _⟩ => show 0 + 1 * (j 1).val = (j 1).val; omega
  | ⟨2, _⟩ => show 0 + 1 * (j 2).val = (j 2).val; omega

/-- The result block of one grid point, at coordinates. -/
theorem out_at (c : Dev nD) (i : grid0.Coords) (arg1 : Memref sig .tc .vmem S4x1024x64 .f32) (harg1 : arg1.IsWhole)
    (arg2 : Memref sig .tc .vmem S32x32x64 .f32) (harg2 : arg2.IsWhole) (arg3 : Memref sig .tc .vmem S32x32x64 .f32) (harg3 : arg3.IsWhole)
    (arg4 : Memref sig .tc .vmem S4x256x256 .f32) (harg4 : arg4.IsWhole) (arg5 : Memref sig .tc .vmem S35x35x64 .f32) (harg5 : arg5.IsWhole)
    (arg6 : Memref sig .tc .vmem S35x35x64 .f32) (harg6 : arg6.IsWhole) (x0 : Vec Ideal S4x1024x64 .f32) (x1 x2 : Vec Ideal S32x32x64 .f32)
    (b : Fin 4) (q s : Fin 32) (p u : Fin 8) :
    out0_A_3 (F := Ideal) c i arg1 harg1 arg2 harg2 arg3 harg3 arg4 harg4 arg5 harg5 arg6 harg6 x0 x1 x2 (ix3 b (place q p) (place s u))
      = field (rows x0 b) x1 (q.val * 8 + p.val) (s.val * 8 + u.val) * x2 (ix3 q s (lane p u)) := by
  unfold out0_A_3
  rw [View.read_writes_junk_eq_canon]
  dsimp only [kernelRun0_A]
  match b with
  | ⟨0, _⟩ =>
    refine (row_miss (k := 3) _ (by show 0 ≠ 3; decide) _ _).trans ?_
    refine (row_miss (k := 2) _ (by show 0 ≠ 2; decide) _ _).trans ?_
    refine (row_miss (k := 1) _ (by show 0 ≠ 1; decide) _ _).trans ?_
    refine (row_hit (k := 0) _ rfl _ _).trans ?_
    rw [← tok_rows x0 ⟨0, by decide⟩ rfl inb_S4x1024x64_S1x1024x64_0_0_0]
    exact word_at arg5.view _ (acc_batch0 c arg1 harg1 arg2 harg2 arg5 x0 x1) arg3 harg3 x2 q s p u
  | ⟨1, _⟩ =>
    refine (row_miss (k := 3) _ (by show 1 ≠ 3; decide) _ _).trans ?_
    refine (row_miss (k := 2) _ (by show 1 ≠ 2; decide) _ _).trans ?_
    refine (row_hit (k := 1) _ rfl _ _).trans ?_
    rw [← tok_rows x0 ⟨1, by decide⟩ rfl inb_S4x1024x64_S1x1024x64_1_0_0]
    exact word_at arg6.view _ (acc_batch1 c arg1 harg1 arg2 harg2 arg6 x0 x1) arg3 harg3 x2 q s p u
  | ⟨2, _⟩ =>
    refine (row_miss (k := 3) _ (by show 2 ≠ 3; decide) _ _).trans ?_
    refine (row_hit (k := 2) _ rfl _ _).trans ?_
    rw [← tok_rows x0 ⟨2, by decide⟩ rfl inb_S4x1024x64_S1x1024x64_2_0_0]
    exact word_at arg5.view _ (acc_batch2 c arg1 harg1 arg2 harg2 arg5 x0 x1) arg3 harg3 x2 q s p u
  | ⟨3, _⟩ =>
    refine (row_hit (k := 3) _ rfl _ _).trans ?_
    rw [← tok_rows x0 ⟨3, by decide⟩ rfl inb_S4x1024x64_S1x1024x64_3_0_0]
    exact word_at arg6.view _ (acc_batch3 c arg1 harg1 arg2 harg2 arg6 x0 x1) arg3 harg3 x2 q s p u

end Cert.KernelIdeal.Hand

end
-- ==== Proof.Count.lean ====
/- How many window positions count as each index of an axis, and the kernel's words for those numbers. -/
module

public import proofs.«01_k».proof.Proof.Fold
public import proofs.«01_k».proof.KernelIdeal
public import Idealize.ShloMosaic.Lib.IdealHost

@[expose] public section

set_option maxRecDepth 16384

noncomputable section

namespace Fold

/-- The number of window positions that count as index `r` on an axis. -/
def cnt (r : ℕ) : ℕ := clamped (fun _ _ => 1) r

end Fold

namespace Cert.KernelIdeal.Hand

open Cert.KernelIdeal Idealize.ShloMosaic Idealize.ShloMosaic.TcCoe Idealize.SL.Sem Fold

/-- The f32 words of the counts that occur. -/
def cntWord (n : ℕ) : BitVec 32 :=
  if n = 1 then 0x3F800000#32 else if n = 2 then 0x40000000#32 else if n = 3 then 0x40400000#32
    else if n = 4 then 0x40800000#32 else 0x42500000#32

/-- The counts are one to four, and 52 at the last index; the kernel's words are theirs. -/
theorem lit0_cnt : ∀ r : Fin 256, lit0 r = cntWord (cnt r.val)
    ∧ (cnt r.val = 1 ∨ cnt r.val = 2 ∨ cnt r.val = 3 ∨ cnt r.val = 4 ∨ cnt r.val = 52) := by
  decide +kernel

/-- Each word decodes to its count. -/
theorem cntWord_real (n : ℕ) (h : n = 1 ∨ n = 2 ∨ n = 3 ∨ n = 4 ∨ n = 52) :
    Ideal.ofBits .f32 (cntWord n) = ((n : ℝ) : EReal) := by
  rcases h with rfl | rfl | rfl | rfl | rfl <;>
    simp [cntWord, Ideal.ofBits, Ideal.ieee, -EReal.coe_mul] <;> norm_num

/-- The kernel's word of an index decodes to its count. -/
theorem lit0_real (r : Fin 256) : FloatOps.ofBits (F := Ideal) .f32 (lit0 r) = ((cnt r.val : ℝ) : EReal) := by
  rw [(lit0_cnt r).1]
  exact cntWord_real _ (lit0_cnt r).2

end Cert.KernelIdeal.Hand
-- ==== Proof.Table.lean ====
/- The kernel's table of inverses: at each place of each patch, one divided by the number of window positions that count
   as that row times the number that count as that column. -/
module

public import proofs.«01_k».proof.Proof.Out
public import proofs.«01_k».proof.Proof.Count
public import Idealize.ShloMosaic.Lib.StableHlo.RunRead

@[expose] public section

set_option maxRecDepth 16384

noncomputable section

namespace Cert.KernelIdeal.Hand

open Cert.KernelIdeal Cert.KernelIdeal.Gen Idealize.ShloMosaic Idealize.ShloMosaic.TcCoe Idealize.SL.Sem Fold

variable (m : (ℓ : Loc nD τ sig) → Buf (Elt Ideal) ℓ)

/-- The counts as a vector. -/
def counts : Vec Ideal S256 .f32 := fun i => FloatOps.ofBits (F := Ideal) .f32 (lit0 (S256.rowMajor i))

/-- The table as the host computes it from the counts. -/
def table (k : Vec Ideal S256 .f32) : Vec Ideal S32x32x64 .f32 :=
  shapeCast S32x32x64 (transpose S32x32x8x8 [0, 2, 1, 3]
    (shapeCast S32x8x32x8 (Host.divf (F := Ideal) (broadcastInDim S256x256 ![] bcast_S_S256x256 (constant (F := Ideal) S_ .f32 0x3F800000#32))
      (mulf (F := Ideal) (broadcastInDim S256x256 ![0, 1] bcast_S256x1_S256x256_0_1 (broadcastInDim S256x1 ![0] bcast_S256_S256x1_0 k))
        (broadcastInDim S256x256 ![0, 1] bcast_S1x256_S256x256_0_1 (broadcastInDim S1x256 ![1] bcast_S256_S1x256_1 k))))
      shapeCasts_S256x256_S32x8x32x8) transposes_S32x8x32x8_S32x32x8x8_0_2_1_3) shapeCasts_S32x32x8x8_S32x32x64

/-- What the region finds in the table's buffer. -/
theorem V_table (c : Dev nD) : V m c main_v9 = table counts := by
  unfold V
  after_reads_simp
  rfl

/-- The table at a place of a patch. -/
theorem table_at (k : Vec Ideal S256 .f32) (q s : Fin 32) (p u : Fin 8) :
    table k (ix3 q s (lane p u)) = Ideal.div 1 (k (ix1 (place q p)) * k (ix1 (place s u))) := by
  unfold table
  pointwise
  refine congrArg (Ideal.div 1) (congrArg₂ (fun a b => k (ix1 a) * k (ix1 b)) (Fin.ext ?_) (Fin.ext ?_))
  · show q.val * 8 + (p.val * 8 + u.val) / 8 = q.val * 8 + p.val
    omega
  · show s.val * 8 + (p.val * 8 + u.val) % 8 = s.val * 8 + u.val
    omega

/-- The counts vector at an index. -/
theorem counts_at (r : Fin 256) : counts (ix1 r) = ((cnt r.val : ℝ) : EReal) := by
  rw [← lit0_real]
  refine congrArg (fun j => FloatOps.ofBits (F := Ideal) .f32 (lit0 j)) (Fin.ext ?_)
  exact Shape.rowMajor_val_one _

end Cert.KernelIdeal.Hand
-- ==== Proof.Arr.lean ====
/- What the kernel leaves in its result array: at each index of the whole batch, the field of that batch's tokens times the
   table. -/
module

public import proofs.«01_k».proof.Proof.Table
public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.TcCoe Idealize.SL.Sem Fold

variable (m : (ℓ : Loc nD τ sig) → Buf (Elt Ideal) ℓ)

/-- Where the windows' blocks lie: the batch axis moves with the grid point, the rest stays. -/
theorem blocks_at : ∀ t : Fin cfg0.N, (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- Batch `b` of the block of the grid point `t`, in the whole array. -/
abbrev batch (t : Fin cfg0.N) (b : Fin 4) : Fin 8 := ⟨t.val * 4 + b.val, by
  have h : t.val < 2 := t.isLt
  omega⟩

theorem emb3 (t : Fin cfg0.N) (b : Fin 4) (r c : Fin 256) :
    ((cfg0.win 3).blk t).view.emb (ix3 b r c) = ix3 (batch t b) r c := by
  obtain ⟨_, _, _, e0, e1, e2⟩ := blocks_at t
  funext a; apply Fin.ext
  match a with
  | ⟨0, _⟩ => show win0_3.index t (0 : Fin 3) * 4 + 1 * b.val = t.val * 4 + b.val; omega
  | ⟨1, _⟩ => show win0_3.index t (1 : Fin 3) * 256 + 1 * r.val = r.val; omega
  | ⟨2, _⟩ => show win0_3.index t (2 : Fin 3) * 256 + 1 * c.val = c.val; omega

/-- The first window's block holds the tokens of its four batches. -/
theorem iblk0_at (c : Dev nD) (t : Fin cfg0.N) (b : Fin 4) (j : Fin 1024) (d : Fin 64) :
    iblk m c 0 t (ix3 b j d) = m ((c : Thread nD τ).loc main_arg0) (ix3 (batch t b) j d) := by
  show V m c main_arg0 (((cfg0.win 0).blk t).view.emb (ix3 b j d)) = _
  rw [V_main_arg0]
  refine congrArg _ ?_
  obtain ⟨⟨e0, e1, e2⟩, _⟩ := blocks_at t
  funext a; apply Fin.ext
  match a with
  | ⟨0, _⟩ => show win0_0.index t (0 : Fin 3) * 4 + 1 * b.val = t.val * 4 + b.val; omega
  | ⟨1, _⟩ => show win0_0.index t (1 : Fin 3) * 1024 + 1 * j.val = j.val; omega
  | ⟨2, _⟩ => show win0_0.index t (2 : Fin 3) * 64 + 1 * d.val = d.val; omega

/-- The second window's block is the whole basis. -/
theorem iblk1_eq (c : Dev nD) (t : Fin cfg0.N) : iblk m c 1 t = m ((c : Thread nD τ).loc main_arg1) := by
  funext y
  show V m c main_arg1 (((cfg0.win 1).blk t).view.emb y) = _
  rw [V_main_arg1]
  refine congrArg _ ?_
  obtain ⟨_, ⟨e0, e1, e2⟩, _⟩ := blocks_at t
  funext a; apply Fin.ext
  match a with
  | ⟨0, _⟩ => show win0_1.index t (0 : Fin 3) * 32 + 1 * (y 0).val = (y 0).val; omega
  | ⟨1, _⟩ => show win0_1.index t (1 : Fin 3) * 32 + 1 * (y 1).val = (y 1).val; omega
  | ⟨2, _⟩ => show win0_1.index t (2 : Fin 3) * 64 + 1 * (y 2).val = (y 2).val; omega

/-- The third window's block is the whole table. -/
theorem iblk2_eq (c : Dev nD) (t : Fin cfg0.N) : iblk m c 2 t = V m c main_v9 := by
  funext y
  show V m c main_v9 (((cfg0.win 2).blk t).view.emb y) = _
  refine congrArg _ ?_
  obtain ⟨_, _, ⟨e0, e1, e2⟩, _⟩ := blocks_at t
  funext a; apply Fin.ext
  match a with
  | ⟨0, _⟩ => show win0_2.index t (0 : Fin 3) * 32 + 1 * (y 0).val = (y 0).val; omega
  | ⟨1, _⟩ => show win0_2.index t (1 : Fin 3) * 32 + 1 * (y 1).val = (y 1).val; omega
  | ⟨2, _⟩ => show win0_2.index t (2 : Fin 3) * 64 + 1 * (y 2).val = (y 2).val; omega

/-- The tokens of one batch of the whole array. -/
def tokens (x : Vec Ideal S8x1024x64 .f32) (n : Fin 8) : Vec Ideal S1x1024x64 .f32 := fun j => x (ix3 n (j 1) (j 2))

/-- The result array at an index: the field of the batch's tokens times the table. -/
theorem arr_at (c : Dev nD) (t : Fin cfg0.N) (b : Fin 4) (q s : Fin 32) (p u : Fin 8) :
    (dats m 0 c).arrAt 3 cfg0.N (ix3 (batch t b) (place q p) (place s u))
      = field (tokens (m ((c : Thread nD τ).loc main_arg0)) (batch t b)) (m ((c : Thread nD τ).loc main_arg1))
          (q.val * 8 + p.val) (s.val * 8 + u.val) * V m c main_v9 (ix3 q s (lane p u)) := by
  have h := congrFun (Cert.KernelIdeal.Value.blocks3 m c t (by revert t; decide +kernel)) (ix3 b (place q p) (place s u))
  rw [Cert.KernelIdeal.Value.flushed3_A] at h
  have h' : (dats m 0 c).arrAt 3 cfg0.N (((cfg0.win 3).blk t).view.emb (ix3 b (place q p) (place s u))) = _ := h
  rw [emb3] at h'
  refine h'.trans ?_
  refine (out_at c _ _ _ _ _ _ _ _ _ _ _ _ _ _ _ _ b q s p u).trans ?_
  rw [iblk1_eq, iblk2_eq]
  refine congrArg (· * _) (congrArg (fun z => field z _ _ _) ?_)
  funext j
  exact iblk0_at m c t b (j 1) (j 2)

/-- The result array at an index, with the table's value. -/
theorem arr_eq (c : Dev nD) (n : Fin 8) (r k : Fin 256) :
    (dats m 0 c).arrAt 3 cfg0.N (ix3 n r k)
      = field (tokens (m ((c : Thread nD τ).loc main_arg0)) n) (m ((c : Thread nD τ).loc main_arg1)) r.val k.val
        * Ideal.div 1 (((cnt r.val : ℝ) : EReal) * ((cnt k.val : ℝ) : EReal)) := by
  obtain ⟨t, b, rfl⟩ : ∃ t b, n = batch t b := ⟨⟨n.val / 4, by show n.val / 4 < 2; omega⟩, ⟨n.val % 4, by omega⟩,
    Fin.ext (by show n.val = n.val / 4 * 4 + n.val % 4; omega)⟩
  obtain ⟨q, p, rfl⟩ : ∃ q p, r = place q p := ⟨⟨r.val / 8, by omega⟩, ⟨r.val % 8, by omega⟩,
    Fin.ext (by show r.val = r.val / 8 * 8 + r.val % 8; omega)⟩
  obtain ⟨s, u, rfl⟩ : ∃ s u, k = place s u := ⟨⟨k.val / 8, by omega⟩, ⟨k.val % 8, by omega⟩,
    Fin.ext (by show k.val = k.val / 8 * 8 + k.val % 8; omega)⟩
  rw [arr_at, V_table, table_at, counts_at, counts_at]

end Cert.KernelIdeal.Hand
-- ==== Proof.RefIdx.lean ====
/- The reference's index words: the window position (th, tw, dh, dw) has the flat index of its clamped row and column. -/
module

public import proofs.«01_k».proof.Proof.Gen.ReferenceIdeal
public import proofs.«01_k».proof.Proof.Fold
public import Idealize.ShloMosaic.Lib.Routing.OpsPair

@[expose] public section

set_option maxRecDepth 16384

noncomputable section

namespace Cert.ReferenceIdeal.Hand

open Cert.ReferenceIdeal Cert.ReferenceIdeal.Facts₀ Idealize.ShloMosaic Fold

variable [Cert.ReferenceIdeal.Facts]

/-- The row of each window position, clamped. -/
def rowWord : IVec S32x1x32x1 32 :=
  minsi (broadcastInDim S32x1x32x1 ![] bcast_S_S32x1x32x1 (id (constantI S_ 32 255#32))) (maxsi (broadcastInDim S32x1x32x1 ![] bcast_S_S32x1x32x1 (id (constantI S_ 32 0#32))) (addi (broadcastInDim S32x1x32x1 ![0, 1, 2, 3] bcast_S32x1x1x1_S32x1x32x1_0_1_2_3 (broadcastInDim S32x1x1x1 ![0] bcast_S32_S32x1x1x1_0 (muli (iotaInDim S32 32 0) (broadcastInDim S32 ![] bcast_S_S32 (constantI S_ 32 8#32))))) (broadcastInDim S32x1x32x1 ![0, 1, 2, 3] bcast_S1x1x32x1_S32x1x32x1_0_1_2_3 (broadcastInDim S1x1x32x1 ![2] bcast_S32_S1x1x32x1_2 (iotaInDim S32 32 0)))))

/-- The column of each window position, clamped. -/
def colWord : IVec S1x32x1x32 32 :=
  minsi (broadcastInDim S1x32x1x32 ![] bcast_S_S1x32x1x32 (id (constantI S_ 32 255#32))) (maxsi (broadcastInDim S1x32x1x32 ![] bcast_S_S1x32x1x32 (id (constantI S_ 32 0#32))) (addi (broadcastInDim S1x32x1x32 ![0, 1, 2, 3] bcast_S1x32x1x1_S1x32x1x32_0_1_2_3 (broadcastInDim S1x32x1x1 ![1] bcast_S32_S1x32x1x1_1 (muli (iotaInDim S32 32 0) (broadcastInDim S32 ![] bcast_S_S32 (constantI S_ 32 8#32))))) (broadcastInDim S1x32x1x32 ![0, 1, 2, 3] bcast_S1x1x1x32_S1x32x1x32_0_1_2_3 (broadcastInDim S1x1x1x32 ![3] bcast_S32_S1x1x1x32_3 (iotaInDim S32 32 0)))))

/-- The flat index of each window position, on one axis. -/
def flat : IVec S1048576 32 :=
  shapeCast _ (addi (broadcastInDim S32x32x32x32 ![0, 1, 2, 3] bcast_S32x1x32x1_S32x32x32x32_0_1_2_3 (muli rowWord (broadcastInDim S32x1x32x1 ![] bcast_S_S32x1x32x1 (constantI S_ 32 256#32)))) (broadcastInDim S32x32x32x32 ![0, 1, 2, 3] bcast_S1x32x1x32_S32x32x32x32_0_1_2_3 colWord)) shapeCasts_S32x32x32x32_S1048576

/-- The scatter's index words. -/
def index : IVec S1048576x1 32 :=
  broadcastInDim S1048576x1 ![0] bcast_S1048576_S1048576x1_0 (select (cmpi .slt flat (broadcastInDim S1048576 ![] bcast_S_S1048576 (constantI S_ 32 0#32)))
    (addi flat (broadcastInDim S1048576 ![] bcast_S_S1048576 (constantI S_ 32 65536#32))) flat)

/-- The place of the window position (th, tw, dh, dw) on the flat axis of all positions. -/
abbrev spot (th tw dh dw : Fin 32) : Fin 1048576 := ⟨((th.val * 32 + tw.val) * 32 + dh.val) * 32 + dw.val, by omega⟩

/-- A position on one axis, clamped to the places there are. -/
abbrev clamp (t d : Fin 32) : ℕ := min (t.val * 8 + d.val) 255

/-- Clamping the word of a window position on one axis: the word of the clamped position. -/
theorem clamp_word : ∀ t d : Fin 32, IntOp.minsi 255#32 (IntOp.maxsi 0#32 (IntOp.addi (IntOp.muli (BitVec.ofNat 32 t.val) 8#32) (BitVec.ofNat 32 d.val)))
    = BitVec.ofNat 32 (clamp t d) := by
  decide +kernel

theorem rowWord_at (th dh : Fin 32) : rowWord (ix4 th 0 dh 0) = BitVec.ofNat 32 (clamp th dh) := by
  rw [← clamp_word]
  pointwise [rowWord]
  rfl

theorem colWord_at (tw dw : Fin 32) : colWord (ix4 0 tw 0 dw) = BitVec.ofNat 32 (clamp tw dw) := by
  rw [← clamp_word]
  pointwise [colWord]
  rfl

/-- The flat index of a window position is the flat index of its clamped row and column. -/
theorem flat_at (th tw dh dw : Fin 32) :
    flat (ix1 (spot th tw dh dw)) = BitVec.ofNat 32 (clamp th dh * 256 + clamp tw dw) := by
  have e : flat (ix1 (spot th tw dh dw)) = IntOp.addi (IntOp.muli (rowWord (ix4 th 0 dh 0)) 256#32) (colWord (ix4 0 tw 0 dw)) := by
    unfold flat
    pointwise
    refine congrArg₂ (fun a b => IntOp.addi (IntOp.muli a 256#32) b) (congrArg rowWord ?_) (congrArg colWord ?_)
    · exact congrArg₂ (fun (a b : Fin 32) => (ix4 a 0 b 0 : S32x1x32x1.Idx)) (Fin.ext (by show _ / 32768 = th.val; omega)) (Fin.ext (by show _ / 32 % 32 = dh.val; omega))
    · exact congrArg₂ (fun (a b : Fin 32) => (ix4 0 a 0 b : S1x32x1x32.Idx)) (Fin.ext (by show _ / 1024 % 32 = tw.val; omega)) (Fin.ext (by show _ % 32 = dw.val; omega))
  rw [e, rowWord_at, colWord_at]
  apply BitVec.eq_of_toNat_eq
  simp only [IntOp.addi, IntOp.muli, BitVec.toNat_add, BitVec.toNat_mul, BitVec.toNat_ofNat]
  omega

/-- The index words are the flat indices: none is negative, so none is wrapped. -/
theorem index_at (th tw dh dw : Fin 32) :
    index (ix2 (spot th tw dh dw) 0) = BitVec.ofNat 32 (clamp th dh * 256 + clamp tw dw) := by
  have e : index (ix2 (spot th tw dh dw) 0) = Scalar.select (IntOp.cmpi .slt (flat (ix1 (spot th tw dh dw))) 0#32)
      (IntOp.addi (flat (ix1 (spot th tw dh dw))) 65536#32) (flat (ix1 (spot th tw dh dw))) := by
    unfold index
    pointwise
  rw [e, flat_at]
  refine Routing.wrap_of_lt _ _ ?_
  have h1 : clamp th dh ≤ 255 := Nat.min_le_right ..
  have h2 : clamp tw dw ≤ 255 := Nat.min_le_right ..
  rw [BitVec.toNat_ofNat]
  omega

/-- Read signed, an index word is its flat index. -/
theorem index_int (th tw dh dw : Fin 32) :
    (index (ix2 (spot th tw dh dw) 0)).toInt = ((clamp th dh * 256 + clamp tw dw : ℕ) : ℤ) := by
  have h1 : clamp th dh ≤ 255 := Nat.min_le_right ..
  have h2 : clamp tw dw ≤ 255 := Nat.min_le_right ..
  rw [index_at]
  exact StableHlo.Predicate.toInt_ofNat_small _ (by omega)

end Cert.ReferenceIdeal.Hand
-- ==== Proof.RefScatter.lean ====
/- What the reference's two scatters leave at a place: the sum over the window positions that count as that place. -/
module

public import proofs.«01_k».proof.Proof.RefIdx
public import proofs.«01_k».proof.Proof.Count

@[expose] public section

set_option maxRecDepth 16384

noncomputable section

namespace Fold

/-- The clamped sum in both dimensions is the sum over all window positions whose flat clamped index is that place. -/
theorem clamped_flat {M : Type*} [AddCommMonoid M] (f : Fin 32 → Fin 32 → Fin 32 → Fin 32 → M) (r c : ℕ) (hc : c < 256) :
    (∑ th : Fin 32, ∑ tw : Fin 32, ∑ dh : Fin 32, ∑ dw : Fin 32,
        if min (th.val * 8 + dh.val) 255 * 256 + min (tw.val * 8 + dw.val) 255 = r * 256 + c then f th tw dh dw else 0)
      = clamped (fun tw dw => clamped (fun th dh => f th tw dh dw) r) c := by
  have e : ∀ th tw dh dw : Fin 32,
      (if min (th.val * 8 + dh.val) 255 * 256 + min (tw.val * 8 + dw.val) 255 = r * 256 + c then f th tw dh dw else 0)
        = if min (tw.val * 8 + dw.val) 255 = c then (if min (th.val * 8 + dh.val) 255 = r then f th tw dh dw else 0) else 0 := by
    intro th tw dh dw
    rw [← ite_and]
    refine if_congr ?_ rfl rfl
    have h : min (tw.val * 8 + dw.val) 255 ≤ 255 := Nat.min_le_right ..
    omega
  have pull : ∀ (P : Prop) [Decidable P] (g : Fin 32 → Fin 32 → M),
      (if P then ∑ a, ∑ b, g a b else 0) = ∑ a, ∑ b, if P then g a b else 0 := by
    intro P _ g
    split <;> simp
  simp only [e, clamped, pull]
  calc _ = ∑ th : Fin 32, ∑ tw : Fin 32, ∑ dw : Fin 32, ∑ dh : Fin 32, _ :=
        Finset.sum_congr rfl fun th _ => Finset.sum_congr rfl fun tw _ => Finset.sum_comm
    _ = ∑ tw : Fin 32, ∑ th : Fin 32, ∑ dw : Fin 32, ∑ dh : Fin 32, _ := Finset.sum_comm
    _ = _ := Finset.sum_congr rfl fun tw _ => Finset.sum_comm

/-- An additive map goes through the clamped sum. -/
theorem map_clamped {M N : Type*} [AddCommMonoid M] [AddCommMonoid N] (φ : M →+ N) (f : Fin 32 → Fin 32 → M) (r : ℕ) :
    φ (clamped f r) = clamped (fun t d => φ (f t d)) r := by
  simp only [clamped, map_sum]
  refine Finset.sum_congr rfl fun t _ => Finset.sum_congr rfl fun d _ => ?_
  rw [apply_ite φ, map_zero]

/-- The natural numbers in the extended reals, as an additive map. -/
def natReal : ℕ →+ EReal where
  toFun n := ((n : ℝ) : EReal)
  map_zero' := by rw [Nat.cast_zero, EReal.coe_zero]
  map_add' a b := by rw [Nat.cast_add, EReal.coe_add]

/-- The window positions that count as row `r` and column `c` number the one count times the other. -/
theorem clamped_ones (r c : ℕ) :
    clamped (fun _ _ => clamped (fun _ _ => (1 : EReal)) r) c = ((cnt r : ℝ) : EReal) * ((cnt c : ℝ) : EReal) := by
  have one : natReal 1 = (1 : EReal) := by
    show ((((1 : ℕ) : ℝ)) : EReal) = 1
    rw [Nat.cast_one, EReal.coe_one]
  have hn : clamped (fun _ _ => cnt r) c = cnt r * cnt c := by
    generalize cnt r = k
    show (∑ t : Fin 32, ∑ d : Fin 32, if min (t.val * 8 + d.val) 255 = c then k else 0)
      = k * ∑ t : Fin 32, ∑ d : Fin 32, if min (t.val * 8 + d.val) 255 = c then 1 else 0
    simp only [Finset.mul_sum, mul_ite, mul_one, mul_zero]
  calc clamped (fun _ _ => clamped (fun _ _ => (1 : EReal)) r) c
      = clamped (fun _ _ => natReal (cnt r)) c := by rw [cnt, map_clamped, one]
    _ = natReal (cnt r * cnt c) := by rw [← map_clamped, hn]
    _ = _ := by
        show (((cnt r * cnt c : ℕ) : ℝ) : EReal) = _
        rw [Nat.cast_mul, EReal.coe_mul]

end Fold

namespace Cert.ReferenceIdeal.Hand

open Cert.ReferenceIdeal Cert.ReferenceIdeal.Facts₀ Idealize.ShloMosaic Fold

variable [Cert.ReferenceIdeal.Facts]

/-- A sum over all places of the flat axis is the sum over the window positions. -/
theorem sum_spots {M : Type*} [AddCommMonoid M] (f : Fin 1048576 → M) :
    ∑ n : Fin 1048576, f n = ∑ th : Fin 32, ∑ tw : Fin 32, ∑ dh : Fin 32, ∑ dw : Fin 32, f (spot th tw dh dw) := by
  let e : Fin 32 × Fin 32 × Fin 32 × Fin 32 ≃ Fin 1048576 :=
    { toFun := fun x => spot x.1 x.2.1 x.2.2.1 x.2.2.2
      invFun := fun n => (⟨n.val / 32768, by omega⟩, ⟨n.val / 1024 % 32, by omega⟩, ⟨n.val / 32 % 32, by omega⟩, ⟨n.val % 32, by omega⟩)
      left_inv := by
        rintro ⟨th, tw, dh, dw⟩
        refine Prod.ext (Fin.ext ?_) (Prod.ext (Fin.ext ?_) (Prod.ext (Fin.ext ?_) (Fin.ext ?_)))
        · show (((th.val * 32 + tw.val) * 32 + dh.val) * 32 + dw.val) / 32768 = th.val; omega
        · show (((th.val * 32 + tw.val) * 32 + dh.val) * 32 + dw.val) / 1024 % 32 = tw.val; omega
        · show (((th.val * 32 + tw.val) * 32 + dh.val) * 32 + dw.val) / 32 % 32 = dh.val; omega
        · show (((th.val * 32 + tw.val) * 32 + dh.val) * 32 + dw.val) % 32 = dw.val; omega
      right_inv := by
        intro n
        apply Fin.ext
        show ((n.val / 32768 * 32 + n.val / 1024 % 32) * 32 + n.val / 32 % 32) * 32 + n.val % 32 = n.val
        omega }
  rw [← Equiv.sum_comp e f, Fintype.sum_prod_type]
  simp only [Fintype.sum_prod_type]
  rfl

/-- Update (b', n) of the batched scatter lands at (b, i) when it is of that batch and its index word is `i`. -/
theorem lands2 (idx : IVec S1048576x1 32) (b' b : Fin 8) (n : Fin 1048576) (i : Fin 65536) :
    scatter_S8x65536_S1048576x1_S8x1048576_0_1_1_1.resultIdx? (ix2 b' n) idx = some (ix2 b i)
      ↔ b' = b ∧ (idx (ix2 n 0)).toInt = (i.val : ℤ) := by
  have s0 : scatter_S8x65536_S1048576x1_S8x1048576_0_1_1_1.start (ix2 b' n) idx 0 = 0 := by
    unfold ScatterDims.start
    exact dif_neg (by decide)
  have s1 : scatter_S8x65536_S1048576x1_S8x1048576_0_1_1_1.start (ix2 b' n) idx 1 = (idx (ix2 n 0)).toInt := by
    unfold ScatterDims.start
    rw [dif_pos (by decide)]
    refine congrArg (fun j => (idx j).toInt) ?_
    funext a
    match a with
    | ⟨0, _⟩ => rfl
    | ⟨1, _⟩ => rfl
  have w0 : scatter_S8x65536_S1048576x1_S8x1048576_0_1_1_1.window (ix2 b' n) 0 = b'.val := rfl
  have w1 : scatter_S8x65536_S1048576x1_S8x1048576_0_1_1_1.window (ix2 b' n) 1 = 0 := rfl
  refine (Routing.resultIdx?_ix2 _ _ idx b i).trans ?_
  rw [s0, s1, w0, w1, Fin.ext_iff]
  omega

/-- Update `n` of the counting scatter lands at `i` when its index word is `i`. -/
theorem lands1 (idx : IVec S1048576x1 32) (n : Fin 1048576) (i : Fin 65536) :
    scatter_S65536_S1048576x1_S1048576_n_0_0_1.resultIdx? (ix1 n) idx = some (ix1 i) ↔ (idx (ix2 n 0)).toInt = (i.val : ℤ) := by
  have s0 : scatter_S65536_S1048576x1_S1048576_n_0_0_1.start (ix1 n) idx 0 = (idx (ix2 n 0)).toInt := by
    unfold ScatterDims.start
    rw [dif_pos (by decide)]
    refine congrArg (fun j => (idx j).toInt) ?_
    funext a
    match a with
    | ⟨0, _⟩ => rfl
    | ⟨1, _⟩ => rfl
  have w0 : scatter_S65536_S1048576x1_S1048576_n_0_0_1.window (ix1 n) 0 = 0 := rfl
  refine (Routing.resultIdx?_ix1 _ _ idx i).trans ?_
  rw [s0, w0]
  omega

/-- The place (r, c) on the flat axis of places. -/
abbrev cell (r c : Fin 256) : Fin 65536 := ⟨r.val * 256 + c.val, by omega⟩

theorem index_cell (th tw dh dw : Fin 32) (r c : Fin 256) : (index (ix2 (spot th tw dh dw) 0)).toInt = ((cell r c).val : ℤ)
    ↔ min (th.val * 8 + dh.val) 255 * 256 + min (tw.val * 8 + dw.val) 255 = r.val * 256 + c.val := by
  rw [index_int]
  exact Nat.cast_inj

/-- The sum over the flat axis of what lands at a place is the clamped sum in both dimensions. -/
theorem sum_landing {M : Type*} [AddCommMonoid M] (f : Fin 1048576 → M) (r c : Fin 256) :
    (∑ n : Fin 1048576, if (index (ix2 n 0)).toInt = ((cell r c).val : ℤ) then f n else 0)
      = clamped (fun tw dw => clamped (fun th dh => f (spot th tw dh dw)) r.val) c.val := by
  refine (sum_spots _).trans (Eq.trans ?_ (clamped_flat _ _ _ c.isLt))
  exact Finset.sum_congr rfl fun th _ => Finset.sum_congr rfl fun tw _ => Finset.sum_congr rfl fun dh _ => Finset.sum_congr rfl fun dw _ =>
    if_congr (index_cell th tw dh dw r c) rfl rfl

/-- The batched scatter at a place: the clamped sum of the updates in both dimensions. -/
theorem scatter2_at (x : FVec Ideal S8x65536 .f32) (upd : FVec Ideal S8x1048576 .f32) (b : Fin 8) (r c : Fin 256) :
    Host.scatterAdd scatter_S8x65536_S1048576x1_S8x1048576_0_1_1_1 x index upd (ix2 b (cell r c))
      = x (ix2 b (cell r c)) + clamped (fun tw dw => clamped (fun th dh => upd (ix2 b (spot th tw dh dw))) r.val) c.val := by
  rw [← sum_landing (fun n => upd (ix2 b n))]
  show x _ + (∑ j ∈ Finset.univ.filter _, upd j) = _
  refine congrArg (x _ + ·) ?_
  rw [Finset.sum_filter, sum_idx2]
  refine (Finset.sum_eq_single b (fun b' _ hne => Finset.sum_eq_zero fun n _ => if_neg fun h => hne ((lands2 index b' b n (cell r c)).mp h).1)
    (fun h => absurd (Finset.mem_univ _) h)).trans ?_
  exact Finset.sum_congr rfl fun n _ => if_congr ((lands2 index b b n (cell r c)).trans (and_iff_right rfl)) rfl rfl

/-- The counting scatter at a place. -/
theorem scatter1_at (x : FVec Ideal S65536 .f32) (upd : FVec Ideal S1048576 .f32) (r c : Fin 256) :
    Host.scatterAdd scatter_S65536_S1048576x1_S1048576_n_0_0_1 x index upd (ix1 (cell r c))
      = x (ix1 (cell r c)) + clamped (fun tw dw => clamped (fun th dh => upd (ix1 (spot th tw dh dw))) r.val) c.val := by
  rw [← sum_landing (fun n => upd (ix1 n))]
  show x _ + (∑ j ∈ Finset.univ.filter _, upd j) = _
  refine congrArg (x _ + ·) ?_
  rw [Finset.sum_filter, sum_idx1]
  exact Finset.sum_congr rfl fun n _ => if_congr (lands1 index n (cell r c)) rfl rfl

end Cert.ReferenceIdeal.Hand
-- ==== Proof.Ref.lean ====
/- What the reference computes at an index: the field of the batch's tokens divided by the number of window positions that
   count as that place. -/
module

public import proofs.«01_k».proof.Proof.RefScatter
public import proofs.«01_k».proof.Proof.Acc
public import proofs.«01_k».proof.Proof.Gen.ReferenceIdeal.Run

@[expose] public section

set_option maxRecDepth 16384

noncomputable section

namespace Cert.ReferenceIdeal.Hand

open Cert.ReferenceIdeal Cert.ReferenceIdeal.Gen Idealize.ShloMosaic Idealize.ShloMosaic.TcCoe Fold
open Cert.KernelIdeal.Hand (field proj token)

/-- The projected patches on the flat axis of window positions. -/
def patches (x : FVec Ideal S8x1024x64 .f32) (w : FVec Ideal S32x32x64 .f32) : FVec Ideal S8x1048576 .f32 :=
  shapeCast _ (Host.dotGeneral dot_S8x1024x64_S1024x64_S8x1024x1024_2_1_01_0_n_n none x
    (shapeCast S1024x64 w shapeCasts_S32x32x64_S1024x64 : FVec Ideal S1024x64 .f32) : FVec Ideal S8x1024x1024 .f32) shapeCasts_S8x1024x1024_S8x1048576

/-- The sums over the window positions, by place. -/
def sums (x : FVec Ideal S8x1024x64 .f32) (w : FVec Ideal S32x32x64 .f32) : FVec Ideal S8x65536 .f32 :=
  Host.scatterAdd scatter_S8x65536_S1048576x1_S8x1048576_0_1_1_1 (broadcastInDim S8x65536 ![] bcast_S_S8x65536 (constant S_ .f32 0x00000000#32)) index (patches x w)

/-- The numbers of window positions, by place. -/
def numbers : FVec Ideal S65536 .f32 :=
  Host.scatterAdd scatter_S65536_S1048576x1_S1048576_n_0_0_1 (broadcastInDim S65536 ![] bcast_S_S65536 (constant S_ .f32 0x00000000#32)) index
    (broadcastInDim S1048576 ![] bcast_S_S1048576 (constant S_ .f32 0x3F800000#32))

/-- The reference's result. -/
def result (x : FVec Ideal S8x1024x64 .f32) (w : FVec Ideal S32x32x64 .f32) : FVec Ideal S8x256x256 .f32 :=
  shapeCast _ (Host.divf (sums x w) (broadcastInDim S8x65536 ![0, 1] bcast_S1x65536_S8x65536_0_1
    (broadcastInDim S1x65536 ![1] bcast_S65536_S1x65536_1 numbers))) shapeCasts_S8x65536_S8x256x256

variable (m : (ℓ : Loc nD τ sig) → Buf (Elt Ideal) ℓ)

/-- The run's term is that result of the two arguments. -/
theorem res_eq (c : Dev nD) : Cert.ReferenceIdeal.Value.res_main_v49 m c
    = result (m ((c.tc : Thread nD τ).loc main_arg0)) (m ((c.tc : Thread nD τ).loc main_arg1)) := rfl

/-- A projected patch: the dot product of the token and the basis row of that place of the window. -/
theorem patches_at (x : FVec Ideal S8x1024x64 .f32) (w : FVec Ideal S32x32x64 .f32) (b : Fin 8) (th tw dh dw : Fin 32) :
    patches x w (ix2 b (spot th tw dh dw)) = proj (fun j => x (ix3 b (j 1) (j 2))) w th tw dh dw := by
  unfold patches
  pointwise
  refine Finset.sum_congr rfl fun d _ => congrArg (fun j => x (ix3 b j d) * w (ix3 dh dw d)) (Fin.ext ?_)
  show (((th.val * 32 + tw.val) * 32 + dh.val) * 32 + dw.val) / 1024 = th.val * 32 + tw.val
  omega

/-- The sum at a place is the field there. -/
theorem sums_at (x : FVec Ideal S8x1024x64 .f32) (w : FVec Ideal S32x32x64 .f32) (b : Fin 8) (r c : Fin 256) :
    sums x w (ix2 b (cell r c)) = field (fun j => x (ix3 b (j 1) (j 2))) w r.val c.val := by
  unfold sums field
  rw [scatter2_at]
  simp only [patches_at]
  pointwise

/-- The number at a place is the count of its row times the count of its column. -/
theorem numbers_at (r c : Fin 256) : numbers (ix1 (cell r c)) = ((cnt r.val : ℝ) : EReal) * ((cnt c.val : ℝ) : EReal) := by
  unfold numbers
  rw [scatter1_at, ← clamped_ones]
  pointwise

/-- The reference's result at an index: the field divided by the number. -/
theorem result_at (x : FVec Ideal S8x1024x64 .f32) (w : FVec Ideal S32x32x64 .f32) (b : Fin 8) (r c : Fin 256) :
    result x w (ix3 b r c) = Ideal.div (field (fun j => x (ix3 b (j 1) (j 2))) w r.val c.val)
      (((cnt r.val : ℝ) : EReal) * ((cnt c.val : ℝ) : EReal)) := by
  rw [← sums_at, ← numbers_at]
  unfold result
  pointwise

end Cert.ReferenceIdeal.Hand
-- ==== Proof.Equation.lean ====
/- The kernel's result array is the reference's result: the field times the inverse of the number of window positions is
   the field divided by that number, which is not zero. -/
module

public import proofs.«01_k».proof.Proof.Arr
public import proofs.«01_k».proof.Proof.Ref

@[expose] public section

noncomputable section

namespace Cert.Proof

open Idealize.ShloMosaic Idealize.ShloMosaic.TcCoe Fold

/-- A count is not zero. -/
theorem cnt_ne_zero (r : Fin 256) : ((cnt r.val : ℝ) : EReal) ≠ 0 := by
  have h : cnt r.val ≠ 0 := by
    have := (Cert.KernelIdeal.Hand.lit0_cnt r).2
    omega
  exact EReal.coe_ne_zero.mpr (Nat.cast_ne_zero.mpr h)

/-- Times the inverse of a number other than zero is divided by it. -/
theorem mul_inverse (x y : EReal) (h : y ≠ 0) : x * Ideal.div 1 y = Ideal.div x y := by
  unfold Ideal.div
  rw [if_neg h, if_neg h, one_mul]

/-- From launches that agree on the arguments, the kernel's array after its run is the reference's result. -/
theorem equation (m : (ℓ : Loc Cert.KernelIdeal.nD Cert.KernelIdeal.τ Cert.KernelIdeal.sig) → Buf (Elt Ideal) ℓ)
    (c : Dev Cert.KernelIdeal.nD) (x : FVec Ideal Cert.ReferenceIdeal.S8x1024x64 .f32) (w : FVec Ideal Cert.ReferenceIdeal.S32x32x64 .f32)
    (hx : m ((c.tc : Thread Cert.KernelIdeal.nD Cert.KernelIdeal.τ).loc Cert.KernelIdeal.main_arg0) = x)
    (hw : m ((c.tc : Thread Cert.KernelIdeal.nD Cert.KernelIdeal.τ).loc Cert.KernelIdeal.main_arg1) = w) :
    Cert.ReferenceIdeal.Hand.result x w = (Cert.KernelIdeal.Gen.dats m 0 c).arrAt 3 Cert.KernelIdeal.cfg0.N := by
  subst hx
  subst hw
  funext i
  obtain ⟨n, r, k, rfl⟩ : ∃ n r k, i = ix3 n r k := ⟨i 0, i 1, i 2, by
    funext a
    match a with
    | ⟨0, _⟩ => rfl
    | ⟨1, _⟩ => rfl
    | ⟨2, _⟩ => rfl⟩
  refine (Cert.ReferenceIdeal.Hand.result_at _ _ n r k).trans (Eq.trans ?_ (Cert.KernelIdeal.Hand.arr_eq m c n r k).symm)
  exact (mul_inverse _ _ (mul_ne_zero (cnt_ne_zero r) (cnt_ne_zero k))).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Kernel and reference compute the same array over the extended reals. -/
theorem algebraic : algebraic_KernelIdeal_ReferenceIdeal := fun m g m' g' _ hargs =>
  ⟨fun c => (Cert.KernelIdeal.Gen.dats m 0 c).arrAt 3 Cert.KernelIdeal.cfg0.N, Cert.KernelIdeal.Value.run_blocks m g,
    (θ_run Cert.ReferenceIdeal.defs _ _).mono (fun _ h c =>
      ⟨(h c).1.trans ((Cert.ReferenceIdeal.Hand.res_eq m' c).trans (equation m c _ _ (hargs c).1.symm (hargs c).2.symm)), (h c).2⟩)
      (Cert.ReferenceIdeal.Value.run m' g')⟩

/-- The five claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono (fun r h => ⟨fun c => ⟨(h c).2.1, (h c).2.2⟩,
    Idealize.ShloMosaic.sem_eq_zero_of_no_sems (by decide) r.2⟩) (Cert.ReferenceIdeal.Value.run m ρ),
  trivial,
  algebraic⟩

end Cert.Proof

end
